-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gating_finite [hPre_gating_finite : Cert.Pre_gating_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gating_finite [hPre_gating_finite : Cert.Pre_gating_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_gating_finite [hKernelIdeal : Cert.KernelIdeal.Facts] [hPre_gating_finite : Cert.Pre_gating_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gating_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_gating_finite [hReferenceIdeal : Cert.ReferenceIdeal.Facts] [hPre_gating_finite : Cert.Pre_gating_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gating_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_gating_finite [hKernelIdeal : Cert.KernelIdeal.Facts] [hReferenceIdeal : Cert.ReferenceIdeal.Facts] [hPre_gating_finite : Cert.Pre_gating_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gating_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v391) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_gating_finite : Cert.Pre_gating_finite.Facts),
    quiescent_Kernel (hKernel := hKernel)
    ∧ quiescent_KernelIdeal (hKernelIdeal := hKernelIdeal)
    ∧ quiescent_KernelIdeal_pre_gating_finite (hKernelIdeal := hKernelIdeal) (hPre_gating_finite := hPre_gating_finite)
    ∧ quiescent_ReferenceIdeal (hReferenceIdeal := hReferenceIdeal)
    ∧ quiescent_ReferenceIdeal_pre_gating_finite (hReferenceIdeal := hReferenceIdeal) (hPre_gating_finite := hPre_gating_finite)
    ∧ preserves_Kernel_KernelIdeal
    ∧ algebraic_KernelIdeal_ReferenceIdeal_pre_gating_finite (hKernelIdeal := hKernelIdeal) (hReferenceIdeal := hReferenceIdeal) (hPre_gating_finite := hPre_gating_finite)
-- ==== Pre_gating_finite.lean ====
abbrev S256x512x21 : Shape := ⟨3, ![256, 512, 21]⟩
abbrev S21 : Shape := ⟨1, ![21]⟩
abbrev S1x21 : Shape := ⟨2, ![1, 21]⟩
abbrev S1 : Shape := ⟨1, ![1]⟩
abbrev S4x512 : Shape := ⟨2, ![4, 512]⟩
abbrev S4 : Shape := ⟨1, ![4]⟩
abbrev S128x16 : Shape := ⟨2, ![128, 16]⟩
abbrev S128 : Shape := ⟨1, ![128]⟩
abbrev S96x8192 : Shape := ⟨2, ![96, 8192]⟩
abbrev S96 : Shape := ⟨1, ![96]⟩
abbrev S192x8192 : Shape := ⟨2, ![192, 8192]⟩
abbrev S192 : Shape := ⟨1, ![192]⟩
abbrev S96x192 : Shape := ⟨2, ![96, 192]⟩
abbrev S2x64x1x8 : Shape := ⟨4, ![2, 64, 1, 8]⟩
abbrev S2x64 : Shape := ⟨2, ![2, 64]⟩
abbrev S2x64x64x1 : Shape := ⟨4, ![2, 64, 64, 1]⟩
abbrev S_ : Shape := ⟨0, ![]⟩

class Facts : Prop where
  bcast_S_S256x512x21 : S_.BroadcastsInDim S256x512x21 (![] : Fin 0 → Fin S256x512x21.rank)
  bcast_S_S21 : S_.BroadcastsInDim S21 (![] : Fin 0 → Fin S21.rank)
  bcast_S_S1x21 : S_.BroadcastsInDim S1x21 (![] : Fin 0 → Fin S1x21.rank)
  bcast_S_S1 : S_.BroadcastsInDim S1 (![] : Fin 0 → Fin S1.rank)
  bcast_S_S4x512 : S_.BroadcastsInDim S4x512 (![] : Fin 0 → Fin S4x512.rank)
  bcast_S_S4 : S_.BroadcastsInDim S4 (![] : Fin 0 → Fin S4.rank)

variable [Facts]

def fn_part1 {F : FTy → Type} [FloatOps F] (main_arg6 : FVec F S4 .f32) (main_v2 : IVec S256x512x21 1) (main_v5 : IVec S21 1) (main_v8 : IVec S21 1) (main_v11 : IVec S1x21 1) (main_v14 : IVec S1 1) (main_v17 : IVec S4x512 1) : IVec S256x512x21 1 × IVec S21 1 × IVec S21 1 × IVec S1x21 1 × IVec S1 1 × IVec S4x512 1 × IVec S4 1 :=
  let main_v18 : FVec F S4 .f32 := Host.absf main_arg6
  let main_cst_5 : FVec F S_ .f32 := constant S_ .f32 0x7F800000#32
  let main_v19 : FVec F S4 .f32 := broadcastInDim S4 ![] bcast_S_S4 main_cst_5
  let main_v20 : IVec S4 1 := cmpf .olt main_v18 main_v19
  (main_v2, main_v5, main_v8, main_v11, main_v14, main_v17, main_v20)

def fn {F : FTy → Type} [FloatOps F] (main_arg0 : FVec F S256x512x21 .f32) (main_arg1 : FVec F S21 .f32) (main_arg2 : FVec F S21 .f32) (main_arg3 : FVec F S1x21 .f32) (main_arg4 : FVec F S1 .f32) (main_arg5 : FVec F S4x512 .f32) (main_arg6 : FVec F S4 .f32) (main_arg7 : FVec F S128x16 .f32) (main_arg8 : FVec F S128 .f32) (main_arg9 : FVec F S96x8192 .f32) (main_arg10 : FVec F S96 .f32) (main_arg11 : FVec F S192x8192 .f32) (main_arg12 : FVec F S192 .f32) (main_arg13 : FVec F S96x192 .f32) (main_arg14 : FVec F S96 .f32) (main_arg15 : FVec F S2x64x1x8 .f32) (main_arg16 : FVec F S2x64 .f32) (main_arg17 : FVec F S2x64 .f32) (main_arg18 : FVec F S2x64 .f32) (main_arg19 : FVec F S2x64x64x1 .f32) (main_arg20 : FVec F S2x64 .f32) (main_arg21 : FVec F S2x64 .f32) (main_arg22 : FVec F S2x64 .f32) : IVec S256x512x21 1 × IVec S21 1 × IVec S21 1 × IVec S1x21 1 × IVec S1 1 × IVec S4x512 1 × IVec S4 1 :=
  let main_v0 : FVec F S256x512x21 .f32 := Host.absf main_arg0
  let main_cst : FVec F S_ .f32 := constant S_ .f32 0x7F800000#32
  let main_v1 : FVec F S256x512x21 .f32 := broadcastInDim S256x512x21 ![] bcast_S_S256x512x21 main_cst
  let main_v2 : IVec S256x512x21 1 := cmpf .olt main_v0 main_v1
  let main_v3 : FVec F S21 .f32 := Host.absf main_arg1
  let main_cst_0 : FVec F S_ .f32 := constant S_ .f32 0x7F800000#32
  let main_v4 : FVec F S21 .f32 := broadcastInDim S21 ![] bcast_S_S21 main_cst_0
  let main_v5 : IVec S21 1 := cmpf .olt main_v3 main_v4
  let main_v6 : FVec F S21 .f32 := Host.absf main_arg2
  let main_cst_1 : FVec F S_ .f32 := constant S_ .f32 0x7F800000#32
  let main_v7 : FVec F S21 .f32 := broadcastInDim S21 ![] bcast_S_S21 main_cst_1
  let main_v8 : IVec S21 1 := cmpf .olt main_v6 main_v7
  let main_v9 : FVec F S1x21 .f32 := Host.absf main_arg3
  let main_cst_2 : FVec F S_ .f32 := constant S_ .f32 0x7F800000#32
  let main_v10 : FVec F S1x21 .f32 := broadcastInDim S1x21 ![] bcast_S_S1x21 main_cst_2
  let main_v11 : IVec S1x21 1 := cmpf .olt main_v9 main_v10
  let main_v12 : FVec F S1 .f32 := Host.absf main_arg4
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  let main_v15 : FVec F S4x512 .f32 := Host.absf main_arg5
  let main_cst_4 : FVec F S_ .f32 := constant S_ .f32 0x7F800000#32
  let main_v16 : FVec F S4x512 .f32 := broadcastInDim S4x512 ![] bcast_S_S4x512 main_cst_4
  let main_v17 : IVec S4x512 1 := cmpf .olt main_v15 main_v16
  fn_part1 (F := F) main_arg6 main_v2 main_v5 main_v8 main_v11 main_v14 main_v17
-- ==== Kernel.lean ====
abbrev S256x512x21 : Shape := ⟨3, ![256, 512, 21]⟩
abbrev S21 : Shape := ⟨1, ![21]⟩
abbrev S1x21 : Shape := ⟨2, ![1, 21]⟩
abbrev S1 : Shape := ⟨1, ![1]⟩
abbrev S4x512 : Shape := ⟨2, ![4, 512]⟩
abbrev S4 : Shape := ⟨1, ![4]⟩
abbrev S128x16 : Shape := ⟨2, ![128, 16]⟩
abbrev S128 : Shape := ⟨1, ![128]⟩
abbrev S96x8192 : Shape := ⟨2, ![96, 8192]⟩
abbrev S96 : Shape := ⟨1, ![96]⟩
abbrev S192x8192 : Shape := ⟨2, ![192, 8192]⟩
abbrev S192 : Shape := ⟨1, ![192]⟩
abbrev S96x192 : Shape := ⟨2, ![96, 192]⟩
abbrev S2x64x1x8 : Shape := ⟨4, ![2, 64, 1, 8]⟩
abbrev S2x64 : Shape := ⟨2, ![2, 64]⟩
abbrev S2x64x64x1 : Shape := ⟨4, ![2, 64, 64, 1]⟩
abbrev S256x21x512 : Shape := ⟨3, ![256, 21, 512]⟩
abbrev S5376x512 : Shape := ⟨2, ![5376, 512]⟩
abbrev S256x21 : Shape := ⟨2, ![256, 21]⟩
abbrev S5376 : Shape := ⟨1, ![5376]⟩
abbrev S5376x1 : Shape := ⟨2, ![5376, 1]⟩
abbrev S16x128 : Shape := ⟨2, ![16, 128]⟩
abbrev S1x128 : Shape := ⟨2, ![1, 128]⟩
abbrev S8192x96 : Shape := ⟨2, ![8192, 96]⟩
abbrev S64x128x96 : Shape := ⟨3, ![64, 128, 96]⟩
abbrev S1x96 : Shape := ⟨2, ![1, 96]⟩
abbrev S8192x192 : Shape := ⟨2, ![8192, 192]⟩
abbrev S64x128x192 : Shape := ⟨3, ![64, 128, 192]⟩
abbrev S1x192 : Shape := ⟨2, ![1, 192]⟩
abbrev S192x96 : Shape := ⟨2, ![192, 96]⟩
abbrev S2x64x8 : Shape := ⟨3, ![2, 64, 8]⟩
abbrev S_ : Shape := ⟨0, ![]⟩
abbrev S2x64x64 : Shape := ⟨3, ![2, 64, 64]⟩
abbrev S1x64x64 : Shape := ⟨3, ![1, 64, 64]⟩
abbrev S64x64 : Shape := ⟨2, ![64, 64]⟩
abbrev S5376x96 : Shape := ⟨2, ![5376, 96]⟩
abbrev S256x21x96 : Shape := ⟨3, ![256, 21, 96]⟩
abbrev S256x96x21 : Shape := ⟨3, ![256, 96, 21]⟩
abbrev S256x1x21 : Shape := ⟨3, ![256, 1, 21]⟩
abbrev S1x1x21 : Shape := ⟨3, ![1, 1, 21]⟩
abbrev S21x1 : Shape := ⟨2, ![21, 1]⟩
abbrev S256x512x1 : Shape := ⟨3, ![256, 512, 1]⟩
abbrev S1x1x1 : Shape := ⟨3, ![1, 1, 1]⟩
abbrev S256x512 : Shape := ⟨2, ![256, 512]⟩
abbrev S512x4 : Shape := ⟨2, ![512, 4]⟩
abbrev S256x4 : Shape := ⟨2, ![256, 4]⟩
abbrev S1x4 : Shape := ⟨2, ![1, 4]⟩
abbrev S1x1 : Shape := ⟨2, ![1, 1]⟩
abbrev S96x512 : Shape := ⟨2, ![96, 512]⟩
abbrev S96x1 : Shape := ⟨2, ![96, 1]⟩
abbrev S96x96 : Shape := ⟨2, ![96, 96]⟩
abbrev S96x8 : Shape := ⟨2, ![96, 8]⟩
abbrev S96x520 : Shape := ⟨2, ![96, 520]⟩
abbrev S96x65x8 : Shape := ⟨3, ![96, 65, 8]⟩
abbrev S96x64x8 : Shape := ⟨3, ![96, 64, 8]⟩
abbrev S96x64x16 : Shape := ⟨3, ![96, 64, 16]⟩
abbrev S96x64x128 : Shape := ⟨3, ![96, 64, 128]⟩
abbrev S1x1x128 : Shape := ⟨3, ![1, 1, 128]⟩
abbrev S96x16x128 : Shape := ⟨3, ![96, 16, 128]⟩
abbrev S16x128x96 : Shape := ⟨3, ![16, 128, 96]⟩
abbrev S16x96x96 : Shape := ⟨3, ![16, 96, 96]⟩
abbrev S96x64x3 : Shape := ⟨3, ![96, 64, 3]⟩
abbrev S96x64x131 : Shape := ⟨3, ![96, 64, 131]⟩
abbrev S96x64x4 : Shape := ⟨3, ![96, 64, 4]⟩
abbrev S96x64x135 : Shape := ⟨3, ![96, 64, 135]⟩
abbrev S1x64x1 : Shape := ⟨3, ![1, 64, 1]⟩
abbrev S64 : Shape := ⟨1, ![64]⟩
abbrev S1x64 : Shape := ⟨2, ![1, 64]⟩
abbrev S64x96x128 : Shape := ⟨3, ![64, 96, 128]⟩
abbrev S64x1x1 : Shape := ⟨3, ![64, 1, 1]⟩
abbrev S64x96x3 : Shape := ⟨3, ![64, 96, 3]⟩
abbrev S64x96x131 : Shape := ⟨3, ![64, 96, 131]⟩
abbrev S64x96x4 : Shape := ⟨3, ![64, 96, 4]⟩
abbrev S64x96x135 : Shape := ⟨3, ![64, 96, 135]⟩
abbrev S16x96x128 : Shape := ⟨3, ![16, 96, 128]⟩
abbrev S16x128x192 : Shape := ⟨3, ![16, 128, 192]⟩
abbrev S16x96x192 : Shape := ⟨3, ![16, 96, 192]⟩
abbrev S256 : Shape := ⟨1, ![256]⟩
abbrev S256x1 : Shape := ⟨2, ![256, 1]⟩

abbrev nBuf : Space → Nat
  | .hbm => 120
  | .vmem => 27
  | .smem => 0
  | _ => 0

abbrev bufTy : (tb : Table) → Fin (tcTables nBuf tb) → BufTy
  | .hbm, ⟨0, _⟩ => ⟨S256x512x21, .f32⟩
  | .hbm, ⟨1, _⟩ => ⟨S21, .f32⟩
  | .hbm, ⟨2, _⟩ => ⟨S21, .f32⟩
  | .hbm, ⟨3, _⟩ => ⟨S1x21, .f32⟩
  | .hbm, ⟨4, _⟩ => ⟨S1, .f32⟩
  | .hbm, ⟨5, _⟩ => ⟨S4x512, .f32⟩
  | .hbm, ⟨6, _⟩ => ⟨S4, .f32⟩
  | .hbm, ⟨7, _⟩ => ⟨S128x16, .f32⟩
  | .hbm, ⟨8, _⟩ => ⟨S128, .f32⟩
  | .hbm, ⟨9, _⟩ => ⟨S96x8192, .f32⟩
  | .hbm, ⟨10, _⟩ => ⟨S96, .f32⟩
  | .hbm, ⟨11, _⟩ => ⟨S192x8192, .f32⟩
  | .hbm, ⟨12, _⟩ => ⟨S192, .f32⟩
  | .hbm, ⟨13, _⟩ => ⟨S96x192, .f32⟩
  | .hbm, ⟨14, _⟩ => ⟨S96, .f32⟩
  | .hbm, ⟨15, _⟩ => ⟨S2x64x1x8, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S2x64x64x1, .f32⟩
  | .hbm, ⟨20, _⟩ => ⟨S2x64, .f32⟩
  | .hbm, ⟨21, _⟩ => ⟨S2x64, .f32⟩
  | .hbm, ⟨22, _⟩ => ⟨S2x64, .f32⟩
  | .hbm, ⟨23, _⟩ => ⟨S256x21x512, .f32⟩
  | .hbm, ⟨24, _⟩ => ⟨S5376x512, .f32⟩
  | .hbm, ⟨25, _⟩ => ⟨S1x21, .f32⟩
  | .hbm, ⟨26, _⟩ => ⟨S256x21, .f32⟩
  | .hbm, ⟨27, _⟩ => ⟨S5376, .f32⟩
  | .hbm, ⟨28, _⟩ => ⟨S5376x1, .f32⟩
  | .hbm, ⟨29, _⟩ => ⟨S1x21, .f32⟩
  | .hbm, ⟨30, _⟩ => ⟨S256x21, .f32⟩
  | .hbm, ⟨31, _⟩ => ⟨S5376, .f32⟩
  | .hbm, ⟨32, _⟩ => ⟨S5376x1, .f32⟩
  | .hbm, ⟨33, _⟩ => ⟨S16x128, .f32⟩
  | .hbm, ⟨34, _⟩ => ⟨S16x128, .bf16⟩
  | .hbm, ⟨35, _⟩ => ⟨S1x128, .f32⟩
  | .hbm, ⟨36, _⟩ => ⟨S8192x96, .f32⟩
  | .hbm, ⟨37, _⟩ => ⟨S64x128x96, .f32⟩
  | .hbm, ⟨38, _⟩ => ⟨S64x128x96, .bf16⟩
  | .hbm, ⟨39, _⟩ => ⟨S1x96, .f32⟩
  | .hbm, ⟨40, _⟩ => ⟨S8192x192, .f32⟩
  | .hbm, ⟨41, _⟩ => ⟨S64x128x192, .f32⟩
  | .hbm, ⟨42, _⟩ => ⟨S64x128x192, .bf16⟩
  | .hbm, ⟨43, _⟩ => ⟨S1x192, .f32⟩
  | .hbm, ⟨44, _⟩ => ⟨S192x96, .f32⟩
  | .hbm, ⟨45, _⟩ => ⟨S192x96, .bf16⟩
  | .hbm, ⟨46, _⟩ => ⟨S1x96, .f32⟩
  | .hbm, ⟨47, _⟩ => ⟨S2x64x8, .f32⟩
  | .hbm, ⟨48, _⟩ => ⟨S_, .f32⟩
  | .hbm, ⟨49, _⟩ => ⟨S2x64, .f32⟩
  | .hbm, ⟨50, _⟩ => ⟨S2x64, .f32⟩
  | .hbm, ⟨51, _⟩ => ⟨S_, .f32⟩
  | .hbm, ⟨52, _⟩ => ⟨S2x64, .f32⟩
  | .hbm, ⟨53, _⟩ => ⟨S2x64, .f32⟩
  | .hbm, ⟨54, _⟩ => ⟨S2x64x64, .f32⟩
  | .hbm, ⟨55, _⟩ => ⟨S2x64x64, .bf16⟩
  | .hbm, ⟨56, _⟩ => ⟨S1x64x64, .bf16⟩
  | .hbm, ⟨57, _⟩ => ⟨S64x64, .bf16⟩
  | .hbm, ⟨58, _⟩ => ⟨S1x64x64, .bf16⟩
  | .hbm, ⟨59, _⟩ => ⟨S64x64, .bf16⟩
  | .hbm, ⟨60, _⟩ => ⟨S5376x96, .f32⟩
  | .hbm, ⟨61, _⟩ => ⟨S256x21x96, .f32⟩
  | .hbm, ⟨62, _⟩ => ⟨S256x96x21, .f32⟩
  | .hbm, ⟨63, _⟩ => ⟨S_, .f32⟩
  | .hbm, ⟨64, _⟩ => ⟨S256x21, .f32⟩
  | .hbm, ⟨65, _⟩ => ⟨S256x1x21, .f32⟩
  | .hbm, ⟨66, _⟩ => ⟨S_, .f32⟩
  | .hbm, ⟨67, _⟩ => ⟨S256x1x21, .f32⟩
  | .hbm, ⟨68, _⟩ => ⟨S256x1x21, .f32⟩
  | .hbm, ⟨69, _⟩ => ⟨S_, .i32⟩
  | .hbm, ⟨70, _⟩ => ⟨S_, .f32⟩
  | .hbm, ⟨71, _⟩ => ⟨S256x21, .f32⟩
  | .hbm, ⟨72, _⟩ => ⟨S256x1x21, .f32⟩
  | .hbm, ⟨73, _⟩ => ⟨S_, .f32⟩
  | .hbm, ⟨74, _⟩ => ⟨S256x1x21, .f32⟩
  | .hbm, ⟨75, _⟩ => ⟨S256x1x21, .f32⟩
  | .hbm, ⟨76, _⟩ => ⟨S256x512x21, .f32⟩
  | .hbm, ⟨77, _⟩ => ⟨S256x512x21, .f32⟩
  | .hbm, ⟨78, _⟩ => ⟨S256x512x21, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S256x21, .f32⟩
  | .hbm, ⟨84, _⟩ => ⟨S256x1x21, .f32⟩
  | .hbm, ⟨85, _⟩ => ⟨S256x1x21, .f32⟩
  | .hbm, ⟨86, _⟩ => ⟨S256x1x21, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S256x1x21, .f32⟩
  | .hbm, ⟨92, _⟩ => ⟨S256x1x21, .f32⟩
  | .hbm, ⟨93, _⟩ => ⟨S_, .f32⟩
  | .hbm, ⟨94, _⟩ => ⟨S256x1x21, .f32⟩
  | .hbm, ⟨95, _⟩ => ⟨S256x1x21, .f32⟩
  | .hbm, ⟨96, _⟩ => ⟨S256x1x21, .f32⟩
  | .hbm, ⟨97, _⟩ => ⟨S256x512x21, .f32⟩
  | .hbm, ⟨98, _⟩ => ⟨S256x512x21, .f32⟩
  | .hbm, ⟨99, _⟩ => ⟨S256x512x21, .f32⟩
  | .hbm, ⟨100, _⟩ => ⟨S256x512x21, .f32⟩
  | .hbm, ⟨101, _⟩ => ⟨S1x1x21, .f32⟩
  | .hbm, ⟨102, _⟩ => ⟨S256x512x21, .f32⟩
  | .hbm, ⟨103, _⟩ => ⟨S256x512x21, .f32⟩
  | .hbm, ⟨104, _⟩ => ⟨S1x1x21, .f32⟩
  | .hbm, ⟨105, _⟩ => ⟨S256x512x21, .f32⟩
  | .hbm, ⟨106, _⟩ => ⟨S256x512x21, .f32⟩
  | .hbm, ⟨107, _⟩ => ⟨S21x1, .f32⟩
  | .hbm, ⟨108, _⟩ => ⟨S256x512x1, .f32⟩
  | .hbm, ⟨109, _⟩ => ⟨S1x1x1, .f32⟩
  | .hbm, ⟨110, _⟩ => ⟨S256x512x1, .f32⟩
  | .hbm, ⟨111, _⟩ => ⟨S256x512x1, .f32⟩
  | .hbm, ⟨112, _⟩ => ⟨S256x512, .f32⟩
  | .hbm, ⟨113, _⟩ => ⟨S512x4, .f32⟩
  | .hbm, ⟨114, _⟩ => ⟨S256x4, .f32⟩
  | .hbm, ⟨115, _⟩ => ⟨S1x4, .f32⟩
  | .hbm, ⟨116, _⟩ => ⟨S256x4, .f32⟩
  | .hbm, ⟨117, _⟩ => ⟨S256x4, .f32⟩
  | .hbm, ⟨118, _⟩ => ⟨S1x1, .f32⟩
  | .hbm, ⟨119, _⟩ => ⟨S_, .f32⟩
  | .local _ .vmem, ⟨0, _⟩ => ⟨S96x512, .f32⟩
  | .local _ .vmem, ⟨1, _⟩ => ⟨S96x512, .f32⟩
  | .local _ .vmem, ⟨2, _⟩ => ⟨S96x1, .f32⟩
  | .local _ .vmem, ⟨3, _⟩ => ⟨S96x1, .f32⟩
  | .local _ .vmem, ⟨4, _⟩ => ⟨S96x1, .f32⟩
  | .local _ .vmem, ⟨5, _⟩ => ⟨S96x1, .f32⟩
  | .local _ .vmem, ⟨6, _⟩ => ⟨S16x128, .bf16⟩
  | .local _ .vmem, ⟨7, _⟩ => ⟨S1x128, .f32⟩
  | .local _ .vmem, ⟨8, _⟩ => ⟨S64x128x96, .bf16⟩
  | .local _ .vmem, ⟨9, _⟩ => ⟨S1x96, .f32⟩
  | .local _ .vmem, ⟨10, _⟩ => ⟨S64x128x192, .bf16⟩
  | .local _ .vmem, ⟨11, _⟩ => ⟨S1x192, .f32⟩
  | .local _ .vmem, ⟨12, _⟩ => ⟨S192x96, .bf16⟩
  | .local _ .vmem, ⟨13, _⟩ => ⟨S1x96, .f32⟩
  | .local _ .vmem, ⟨14, _⟩ => ⟨S2x64x8, .f32⟩
  | .local _ .vmem, ⟨15, _⟩ => ⟨S2x64, .f32⟩
  | .local _ .vmem, ⟨16, _⟩ => ⟨S2x64, .f32⟩
  | .local _ .vmem, ⟨17, _⟩ => ⟨S2x64, .f32⟩
  | .local _ .vmem, ⟨18, _⟩ => ⟨S64x64, .bf16⟩
  | .local _ .vmem, ⟨19, _⟩ => ⟨S64x64, .bf16⟩
  | .local _ .vmem, ⟨20, _⟩ => ⟨S2x64, .f32⟩
  | .local _ .vmem, ⟨21, _⟩ => ⟨S2x64, .f32⟩
  | .local _ .vmem, ⟨22, _⟩ => ⟨S2x64, .f32⟩
  | .local _ .vmem, ⟨23, _⟩ => ⟨S96x96, .f32⟩
  | .local _ .vmem, ⟨24, _⟩ => ⟨S96x96, .f32⟩
  | .local _ .vmem, ⟨25, _⟩ => ⟨S256x4, .f32⟩
  | .local _ .vmem, ⟨26, _⟩ => ⟨S1x1, .f32⟩
  | _, _ => ⟨S256x512x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_cst : Ref sig .tc := ⟨.hbm, 48, rfl⟩
abbrev main_call0_v25 : Ref sig .tc := ⟨.hbm, 49, rfl⟩
abbrev main_call0_v26 : Ref sig .tc := ⟨.hbm, 50, rfl⟩
abbrev main_call0_cst_0 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_v0_0 : Ref sig .tc := ⟨.hbm, 62, rfl⟩
abbrev main_call0_cst_1 : Ref sig .tc := ⟨.hbm, 63, rfl⟩
abbrev main_call0_v38 : Ref sig .tc := ⟨.hbm, 64, rfl⟩
abbrev main_call0_v39 : Ref sig .tc := ⟨.hbm, 65, rfl⟩
abbrev main_call0_cst_2 : Ref sig .tc := ⟨.hbm, 66, rfl⟩
abbrev main_call0_v40 : Ref sig .tc := ⟨.hbm, 67, rfl⟩
abbrev main_call0_v41 : Ref sig .tc := ⟨.hbm, 68, rfl⟩
abbrev main_call0_c : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_cst_0 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_cst_1 : Ref sig .tc := ⟨.hbm, 80, rfl⟩
abbrev main_call0_call0_v8 : Ref sig .tc := ⟨.hbm, 81, rfl⟩
abbrev main_call0_call0_cst_2 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_call0_v12 : Ref sig .tc := ⟨.hbm, 86, rfl⟩
abbrev main_call0_call0_cst_3 : Ref sig .tc := ⟨.hbm, 87, rfl⟩
abbrev main_call0_call0_v13 : Ref sig .tc := ⟨.hbm, 88, rfl⟩
abbrev main_call0_call0_cst_4 : Ref sig .tc := ⟨.hbm, 89, rfl⟩
abbrev main_call0_call0_call0_v0 : Ref sig .tc := ⟨.hbm, 90, rfl⟩
abbrev main_call0_call0_call0_v1 : Ref sig .tc := ⟨.hbm, 91, rfl⟩
abbrev main_call0_v42 : Ref sig .tc := ⟨.hbm, 92, rfl⟩
abbrev main_call0_cst_3 : Ref sig .tc := ⟨.hbm, 93, rfl⟩
abbrev main_call0_v43 : Ref sig .tc := ⟨.hbm, 94, rfl⟩
abbrev main_call0_v44 : Ref sig .tc := ⟨.hbm, 95, rfl⟩
abbrev main_call0_v45 : Ref sig .tc := ⟨.hbm, 96, rfl⟩
abbrev main_call0_v46 : Ref sig .tc := ⟨.hbm, 97, rfl⟩
abbrev main_call0_v47 : Ref sig .tc := ⟨.hbm, 98, rfl⟩
abbrev main_call0_v48 : Ref sig .tc := ⟨.hbm, 99, rfl⟩
abbrev main_call0_v49 : Ref sig .tc := ⟨.hbm, 100, rfl⟩
abbrev main_call0_v50 : Ref sig .tc := ⟨.hbm, 101, rfl⟩
abbrev main_call0_v51 : Ref sig .tc := ⟨.hbm, 102, rfl⟩
abbrev main_call0_v52 : Ref sig .tc := ⟨.hbm, 103, rfl⟩
abbrev main_call0_v53 : Ref sig .tc := ⟨.hbm, 104, rfl⟩
abbrev main_call0_v54 : Ref sig .tc := ⟨.hbm, 105, rfl⟩
abbrev main_call0_v55 : Ref sig .tc := ⟨.hbm, 106, rfl⟩
abbrev main_call0_v56 : Ref sig .tc := ⟨.hbm, 107, rfl⟩
abbrev main_call0_v57 : Ref sig .tc := ⟨.hbm, 108, rfl⟩
abbrev main_call0_v58 : Ref sig .tc := ⟨.hbm, 109, rfl⟩
abbrev main_call0_v59 : Ref sig .tc := ⟨.hbm, 110, rfl⟩
abbrev main_call0_v60 : Ref sig .tc := ⟨.hbm, 111, rfl⟩
abbrev main_call0_v61 : Ref sig .tc := ⟨.hbm, 112, rfl⟩
abbrev main_call0_v62 : Ref sig .tc := ⟨.hbm, 113, rfl⟩
abbrev main_call0_v63 : Ref sig .tc := ⟨.hbm, 114, rfl⟩
abbrev main_call0_v64 : Ref sig .tc := ⟨.hbm, 115, rfl⟩
abbrev main_call0_v65 : Ref sig .tc := ⟨.hbm, 116, rfl⟩
abbrev main_call0_v66 : Ref sig .tc := ⟨.hbm, 117, rfl⟩
abbrev main_call0_v67 : Ref sig .tc := ⟨.hbm, 118, rfl⟩
abbrev main_v0_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc1_stg0_0 : Ref sig .tc := ⟨.vmem, 25, rfl⟩
abbrev cc1_stg1_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc1_sem0_0 : DmaSem sig := 25
abbrev cc1_sem1_0 : DmaSem sig := 26

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x96 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S96x96 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := .none

abbrev stage1_0 : Fin 1 → Memref sig .tc .vmem S256x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S256x512x21 : Shape := ⟨3, ![256, 512, 21]⟩
abbrev S21 : Shape := ⟨1, ![21]⟩
abbrev S1x21 : Shape := ⟨2, ![1, 21]⟩
abbrev S1 : Shape := ⟨1, ![1]⟩
abbrev S4x512 : Shape := ⟨2, ![4, 512]⟩
abbrev S4 : Shape := ⟨1, ![4]⟩
abbrev S128x16 : Shape := ⟨2, ![128, 16]⟩
abbrev S128 : Shape := ⟨1, ![128]⟩
abbrev S96x8192 : Shape := ⟨2, ![96, 8192]⟩
abbrev S96 : Shape := ⟨1, ![96]⟩
abbrev S192x8192 : Shape := ⟨2, ![192, 8192]⟩
abbrev S192 : Shape := ⟨1, ![192]⟩
abbrev S96x192 : Shape := ⟨2, ![96, 192]⟩
abbrev S2x64x1x8 : Shape := ⟨4, ![2, 64, 1, 8]⟩
abbrev S2x64 : Shape := ⟨2, ![2, 64]⟩
abbrev S2x64x64x1 : Shape := ⟨4, ![2, 64, 64, 1]⟩
abbrev S_ : Shape := ⟨0, ![]⟩
abbrev S256x21 : Shape := ⟨2, ![256, 21]⟩
abbrev S256x1x21 : Shape := ⟨3, ![256, 1, 21]⟩
abbrev S1x1x21 : Shape := ⟨3, ![1, 1, 21]⟩
abbrev S21x1 : Shape := ⟨2, ![21, 1]⟩
abbrev S256x512x1 : Shape := ⟨3, ![256, 512, 1]⟩
abbrev S1x1x1 : Shape := ⟨3, ![1, 1, 1]⟩
abbrev S256x512 : Shape := ⟨2, ![256, 512]⟩
abbrev S512x4 : Shape := ⟨2, ![512, 4]⟩
abbrev S256x4 : Shape := ⟨2, ![256, 4]⟩
abbrev S1x4 : Shape := ⟨2, ![1, 4]⟩
abbrev S256x3 : Shape := ⟨2, ![256, 3]⟩
abbrev S256x2 : Shape := ⟨2, ![256, 2]⟩
abbrev S256 : Shape := ⟨1, ![256]⟩
abbrev S256x1 : Shape := ⟨2, ![256, 1]⟩
abbrev S256x2x1 : Shape := ⟨3, ![256, 2, 1]⟩
abbrev S256x2x2 : Shape := ⟨3, ![256, 2, 2]⟩
abbrev S256x21x512 : Shape := ⟨3, ![256, 21, 512]⟩
abbrev S256x21x1 : Shape := ⟨3, ![256, 21, 1]⟩
abbrev S256x21x8 : Shape := ⟨3, ![256, 21, 8]⟩
abbrev S256x21x520 : Shape := ⟨3, ![256, 21, 520]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S256x21x64x16 : Shape := ⟨4, ![256, 21, 64, 16]⟩
abbrev S16x128 : Shape := ⟨2, ![16, 128]⟩
abbrev S256x21x64x128 : Shape := ⟨4, ![256, 21, 64, 128]⟩
abbrev S1x1x1x128 : Shape := ⟨4, ![1, 1, 1, 128]⟩
abbrev S5376x64x128 : Shape := ⟨3, ![5376, 64, 128]⟩
abbrev S5376x8192 : Shape := ⟨2, ![5376, 8192]⟩
abbrev S8192x96 : Shape := ⟨2, ![8192, 96]⟩
abbrev S5376x96 : Shape := ⟨2, ![5376, 96]⟩
abbrev S1x96 : Shape := ⟨2, ![1, 96]⟩
abbrev S1x64x1x8 : Shape := ⟨4, ![1, 64, 1, 8]⟩
abbrev S64x1x8 : Shape := ⟨3, ![64, 1, 8]⟩
abbrev S1x64 : Shape := ⟨2, ![1, 64]⟩
abbrev S5376x64x135 : Shape := ⟨3, ![5376, 64, 135]⟩
abbrev S64x1x1 : Shape := ⟨3, ![64, 1, 1]⟩
abbrev S1x64x1 : Shape := ⟨3, ![1, 64, 1]⟩
abbrev S1x64x64x1 : Shape := ⟨4, ![1, 64, 64, 1]⟩
abbrev S64x64x1 : Shape := ⟨3, ![64, 64, 1]⟩
abbrev S64x64 : Shape := ⟨2, ![64, 64]⟩
abbrev S5376x128x64 : Shape := ⟨3, ![5376, 128, 64]⟩
abbrev S8192x192 : Shape := ⟨2, ![8192, 192]⟩
abbrev S5376x192 : Shape := ⟨2, ![5376, 192]⟩
abbrev S1x192 : Shape := ⟨2, ![1, 192]⟩
abbrev S192x96 : Shape := ⟨2, ![192, 96]⟩
abbrev S256x21x96 : Shape := ⟨3, ![256, 21, 96]⟩
abbrev S256x96x21 : Shape := ⟨3, ![256, 96, 21]⟩
abbrev S256x1x1 : Shape := ⟨3, ![256, 1, 1]⟩

abbrev nBuf : Space → Nat
  | .hbm => 531
  | .vmem => 0
  | .smem => 0
  | _ => 0

abbrev hbmTy0_0 (i : Nat) : BufTy := match i % 128 with
  | 0 => ⟨S256x512x21, .f32⟩
  | 1 => ⟨S21, .f32⟩
  | 2 => ⟨S21, .f32⟩
  | 3 => ⟨S1x21, .f32⟩
  | 4 => ⟨S1, .f32⟩
  | 5 => ⟨S4x512, .f32⟩
  | 6 => ⟨S4, .f32⟩
  | 7 => ⟨S128x16, .f32⟩
  | 8 => ⟨S128, .f32⟩
  | 9 => ⟨S96x8192, .f32⟩
  | 10 => ⟨S96, .f32⟩
  | 11 => ⟨S192x8192, .f32⟩
  | 12 => ⟨S192, .f32⟩
  | 13 => ⟨S96x192, .f32⟩
  | 14 => ⟨S96, .f32⟩
  | 15 => ⟨S2x64x1x8, .f32⟩
  | 16 => ⟨S2x64, .f32⟩
  | 17 => ⟨S2x64, .f32⟩
  | 18 => ⟨S2x64, .f32⟩
  | 19 => ⟨S2x64x64x1, .f32⟩
  | 20 => ⟨S2x64, .f32⟩
  | 21 => ⟨S2x64, .f32⟩
  | 22 => ⟨S2x64, .f32⟩
  | 23 => ⟨S_, .f32⟩
  | 24 => ⟨S256x21, .f32⟩
  | 25 => ⟨S256x1x21, .f32⟩
  | 26 => ⟨S_, .f32⟩
  | 27 => ⟨S256x1x21, .f32⟩
  | 28 => ⟨S256x1x21, .f32⟩
  | 29 => ⟨S_, .i32⟩
  | 30 => ⟨S_, .f32⟩
  | 31 => ⟨S256x21, .f32⟩
  | 32 => ⟨S256x1x21, .f32⟩
  | 33 => ⟨S_, .f32⟩
  | 34 => ⟨S256x1x21, .f32⟩
  | 35 => ⟨S256x1x21, .f32⟩
  | 36 => ⟨S256x512x21, .f32⟩
  | 37 => ⟨S256x512x21, .f32⟩
  | 38 => ⟨S256x512x21, .f32⟩
  | 39 => ⟨S_, .f32⟩
  | 40 => ⟨S_, .f32⟩
  | 41 => ⟨S_, .f32⟩
  | 42 => ⟨S_, .f32⟩
  | 43 => ⟨S256x21, .f32⟩
  | 44 => ⟨S256x1x21, .f32⟩
  | 45 => ⟨S256x1x21, .f32⟩
  | 46 => ⟨S256x1x21, .f32⟩
  | 47 => ⟨S_, .f32⟩
  | 48 => ⟨S_, .i1⟩
  | 49 => ⟨S_, .f32⟩
  | 50 => ⟨S_, .f32⟩
  | 51 => ⟨S256x1x21, .f32⟩
  | 52 => ⟨S256x1x21, .f32⟩
  | 53 => ⟨S_, .f32⟩
  | 54 => ⟨S256x1x21, .f32⟩
  | 55 => ⟨S256x1x21, .f32⟩
  | 56 => ⟨S256x1x21, .f32⟩
  | 57 => ⟨S256x512x21, .f32⟩
  | 58 => ⟨S256x512x21, .f32⟩
  | 59 => ⟨S256x512x21, .f32⟩
  | 60 => ⟨S256x512x21, .f32⟩
  | 61 => ⟨S1x1x21, .f32⟩
  | 62 => ⟨S256x512x21, .f32⟩
  | 63 => ⟨S256x512x21, .f32⟩
  | 64 => ⟨S1x1x21, .f32⟩
  | 65 => ⟨S256x512x21, .f32⟩
  | 66 => ⟨S256x512x21, .f32⟩
  | 67 => ⟨S21x1, .f32⟩
  | 68 => ⟨S256x512x1, .f32⟩
  | 69 => ⟨S1x1x1, .f32⟩
  | 70 => ⟨S256x512x1, .f32⟩
  | 71 => ⟨S256x512x1, .f32⟩
  | 72 => ⟨S256x512, .f32⟩
  | 73 => ⟨S512x4, .f32⟩
  | 74 => ⟨S256x4, .f32⟩
  | 75 => ⟨S1x4, .f32⟩
  | 76 => ⟨S256x4, .f32⟩
  | 77 => ⟨S256x4, .f32⟩
  | 78 => ⟨S256x3, .f32⟩
  | 79 => ⟨S256x3, .i32⟩
  | 80 => ⟨S256x2, .f32⟩
  | 81 => ⟨S_, .f32⟩
  | 82 => ⟨S256, .f32⟩
  | 83 => ⟨S_, .f32⟩
  | 84 => ⟨S256, .f32⟩
  | 85 => ⟨S256, .f32⟩
  | 86 => ⟨S256x1, .f32⟩
  | 87 => ⟨S256x2, .f32⟩
  | 88 => ⟨S256x2, .f32⟩
  | 89 => ⟨S256x2, .f32⟩
  | 90 => ⟨S_, .f32⟩
  | 91 => ⟨S256, .f32⟩
  | 92 => ⟨S256x1, .f32⟩
  | 93 => ⟨S256x2, .f32⟩
  | 94 => ⟨S256x2, .f32⟩
  | 95 => ⟨S_, .f32⟩
  | 96 => ⟨S256x4, .f32⟩
  | 97 => ⟨S256, .i32⟩
  | 98 => ⟨S256x1, .i32⟩
  | 99 => ⟨S256x2, .i32⟩
  | 100 => ⟨S_, .i32⟩
  | 101 => ⟨S256x1, .i32⟩
  | 102 => ⟨S256x1, .i1⟩
  | 103 => ⟨S_, .i32⟩
  | 104 => ⟨S256x1, .i32⟩
  | 105 => ⟨S256x1, .i32⟩
  | 106 => ⟨S256x1, .i32⟩
  | 107 => ⟨S_, .i32⟩
  | 108 => ⟨S256x2, .i32⟩
  | 109 => ⟨S256x2, .i1⟩
  | 110 => ⟨S_, .i32⟩
  | 111 => ⟨S256x2, .i32⟩
  | 112 => ⟨S256x2, .i32⟩
  | 113 => ⟨S256x2, .i32⟩
  | 114 => ⟨S256x2, .i32⟩
  | 115 => ⟨S256x2x1, .i32⟩
  | 116 => ⟨S256x2x1, .i32⟩
  | 117 => ⟨S256x2x2, .i32⟩
  | 118 => ⟨S256x4, .f32⟩
  | 119 => ⟨S_, .f32⟩
  | 120 => ⟨S4, .f32⟩
  | 121 => ⟨S_, .f32⟩
  | 122 => ⟨S256x4, .f32⟩
  | 123 => ⟨S256x4, .i1⟩
  | 124 => ⟨S256x4, .i32⟩
  | 125 => ⟨S_, .i32⟩
  | 126 => ⟨S4, .i32⟩
  | 127 => ⟨S4, .f32⟩
  | _ => ⟨S256x512x21, .f32⟩

abbrev hbmTy0_1 (i : Nat) : BufTy := match i % 128 with
  | 0 => ⟨S_, .i32⟩
  | 1 => ⟨S_, .f32⟩
  | 2 => ⟨S_, .f32⟩
  | 3 => ⟨S1, .f32⟩
  | 4 => ⟨S_, .f32⟩
  | 5 => ⟨S1, .f32⟩
  | 6 => ⟨S1, .f32⟩
  | 7 => ⟨S4, .f32⟩
  | 8 => ⟨S4, .f32⟩
  | 9 => ⟨S4, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .i1⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i32⟩
  | 30 => ⟨S_, .f32⟩
  | 31 => ⟨S_, .f32⟩
  | 32 => ⟨S1, .f32⟩
  | 33 => ⟨S_, .f32⟩
  | 34 => ⟨S1, .f32⟩
  | 35 => ⟨S1, .f32⟩
  | 36 => ⟨S4, .f32⟩
  | 37 => ⟨S4, .f32⟩
  | 38 => ⟨S4, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S256x21x512, .f32⟩
  | 62 => ⟨S256x21x1, .f32⟩
  | 63 => ⟨S256x21x8, .f32⟩
  | 64 => ⟨S256x21x520, .f32⟩
  | 65 => ⟨S64, .i32⟩
  | 66 => ⟨S_, .i32⟩
  | 67 => ⟨S64, .i32⟩
  | 68 => ⟨S64, .i32⟩
  | 69 => ⟨S64x1, .i32⟩
  | 70 => ⟨S16, .i32⟩
  | 71 => ⟨S1x16, .i32⟩
  | 72 => ⟨S64x16, .i32⟩
  | 73 => ⟨S64x16, .i32⟩
  | 74 => ⟨S64x16, .i32⟩
  | 75 => ⟨S_, .i32⟩
  | 76 => ⟨S64x16, .i32⟩
  | 77 => ⟨S64x16, .i1⟩
  | 78 => ⟨S_, .i32⟩
  | 79 => ⟨S64x16, .i32⟩
  | 80 => ⟨S64x16, .i32⟩
  | 81 => ⟨S64x16, .i32⟩
  | 82 => ⟨S64x16x1, .i32⟩
  | 83 => ⟨S256x21x64x16, .f32⟩
  | 84 => ⟨S16x128, .f32⟩
  | 85 => ⟨S256x21x64x128, .f32⟩
  | 86 => ⟨S1x1x1x128, .f32⟩
  | 87 => ⟨S256x21x64x128, .f32⟩
  | 88 => ⟨S256x21x64x128, .f32⟩
  | 89 => ⟨S5376x64x128, .f32⟩
  | 90 => ⟨S5376x8192, .f32⟩
  | 91 => ⟨S8192x96, .f32⟩
  | 92 => ⟨S5376x96, .f32⟩
  | 93 => ⟨S1x96, .f32⟩
  | 94 => ⟨S5376x96, .f32⟩
  | 95 => ⟨S5376x96, .f32⟩
  | 96 => ⟨S1x64x1x8, .f32⟩
  | 97 => ⟨S64x1x8, .f32⟩
  | 98 => ⟨S1x64, .f32⟩
  | 99 => ⟨S64, .f32⟩
  | 100 => ⟨S_, .i32⟩
  | 101 => ⟨S_, .f32⟩
  | 102 => ⟨S5376x64x135, .f32⟩
  | 103 => ⟨S5376x64x128, .f32⟩
  | 104 => ⟨S64x1x1, .f32⟩
  | 105 => ⟨S64, .f32⟩
  | 106 => ⟨S1x64x1, .f32⟩
  | 107 => ⟨S5376x64x128, .f32⟩
  | 108 => ⟨S5376x64x128, .f32⟩
  | 109 => ⟨S_, .f32⟩
  | 110 => ⟨S5376x64x128, .f32⟩
  | 111 => ⟨S5376x64x128, .f32⟩
  | 112 => ⟨S5376x64x128, .f32⟩
  | 113 => ⟨S64x1x1, .f32⟩
  | 114 => ⟨S64, .f32⟩
  | 115 => ⟨S1x64x1, .f32⟩
  | 116 => ⟨S5376x64x128, .f32⟩
  | 117 => ⟨S5376x64x128, .f32⟩
  | 118 => ⟨S5376x64x128, .f32⟩
  | 119 => ⟨S5376x64x128, .f32⟩
  | 120 => ⟨S64x1x1, .f32⟩
  | 121 => ⟨S64, .f32⟩
  | 122 => ⟨S1x64x1, .f32⟩
  | 123 => ⟨S5376x64x128, .f32⟩
  | 124 => ⟨S5376x64x128, .f32⟩
  | 125 => ⟨S5376x64x128, .f32⟩
  | 126 => ⟨S5376x64x128, .f32⟩
  | 127 => ⟨S64x1x1, .f32⟩
  | _ => ⟨S256x512x21, .f32⟩

abbrev hbmTy0_2 (i : Nat) : BufTy := match i % 128 with
  | 0 => ⟨S64, .f32⟩
  | 1 => ⟨S1x64x1, .f32⟩
  | 2 => ⟨S5376x64x128, .f32⟩
  | 3 => ⟨S5376x64x128, .f32⟩
  | 4 => ⟨S5376x64x128, .f32⟩
  | 5 => ⟨S5376x64x128, .f32⟩
  | 6 => ⟨S64x1x1, .f32⟩
  | 7 => ⟨S64, .f32⟩
  | 8 => ⟨S1x64x1, .f32⟩
  | 9 => ⟨S5376x64x128, .f32⟩
  | 10 => ⟨S5376x64x128, .f32⟩
  | 11 => ⟨S5376x64x128, .f32⟩
  | 12 => ⟨S5376x64x128, .f32⟩
  | 13 => ⟨S64x1x1, .f32⟩
  | 14 => ⟨S64, .f32⟩
  | 15 => ⟨S1x64x1, .f32⟩
  | 16 => ⟨S5376x64x128, .f32⟩
  | 17 => ⟨S5376x64x128, .f32⟩
  | 18 => ⟨S5376x64x128, .f32⟩
  | 19 => ⟨S5376x64x128, .f32⟩
  | 20 => ⟨S64x1x1, .f32⟩
  | 21 => ⟨S64, .f32⟩
  | 22 => ⟨S1x64x1, .f32⟩
  | 23 => ⟨S5376x64x128, .f32⟩
  | 24 => ⟨S5376x64x128, .f32⟩
  | 25 => ⟨S5376x64x128, .f32⟩
  | 26 => ⟨S5376x64x128, .f32⟩
  | 27 => ⟨S64x1x1, .f32⟩
  | 28 => ⟨S64, .f32⟩
  | 29 => ⟨S1x64x1, .f32⟩
  | 30 => ⟨S5376x64x128, .f32⟩
  | 31 => ⟨S5376x64x128, .f32⟩
  | 32 => ⟨S5376x64x128, .f32⟩
  | 33 => ⟨S1x64x1, .f32⟩
  | 34 => ⟨S5376x64x128, .f32⟩
  | 35 => ⟨S5376x64x128, .f32⟩
  | 36 => ⟨S_, .f32⟩
  | 37 => ⟨S5376x64x128, .f32⟩
  | 38 => ⟨S5376x64x128, .f32⟩
  | 39 => ⟨S_, .f32⟩
  | 40 => ⟨S_, .f32⟩
  | 41 => ⟨S_, .f32⟩
  | 42 => ⟨S5376x64x128, .f32⟩
  | 43 => ⟨S5376x64x128, .f32⟩
  | 44 => ⟨S5376x64x128, .f32⟩
  | 45 => ⟨S_, .f32⟩
  | 46 => ⟨S5376x64x128, .f32⟩
  | 47 => ⟨S5376x64x128, .f32⟩
  | 48 => ⟨S5376x64x128, .f32⟩
  | 49 => ⟨S1x64, .f32⟩
  | 50 => ⟨S64, .f32⟩
  | 51 => ⟨S1x64, .f32⟩
  | 52 => ⟨S64, .f32⟩
  | 53 => ⟨S_, .f32⟩
  | 54 => ⟨S5376x64x128, .f32⟩
  | 55 => ⟨S5376x64x128, .f32⟩
  | 56 => ⟨S1x64x1, .f32⟩
  | 57 => ⟨S5376x64x128, .f32⟩
  | 58 => ⟨S5376x64x128, .f32⟩
  | 59 => ⟨S1x64x1, .f32⟩
  | 60 => ⟨S5376x64x128, .f32⟩
  | 61 => ⟨S5376x64x128, .f32⟩
  | 62 => ⟨S5376x64x128, .f32⟩
  | 63 => ⟨S1x64x64x1, .f32⟩
  | 64 => ⟨S64x64x1, .f32⟩
  | 65 => ⟨S1x64, .f32⟩
  | 66 => ⟨S64, .f32⟩
  | 67 => ⟨S64x64, .f32⟩
  | 68 => ⟨S5376x128x64, .f32⟩
  | 69 => ⟨S5376x64x128, .f32⟩
  | 70 => ⟨S1x64x1, .f32⟩
  | 71 => ⟨S5376x64x128, .f32⟩
  | 72 => ⟨S5376x64x128, .f32⟩
  | 73 => ⟨S_, .f32⟩
  | 74 => ⟨S5376x64x128, .f32⟩
  | 75 => ⟨S5376x64x128, .f32⟩
  | 76 => ⟨S_, .f32⟩
  | 77 => ⟨S_, .f32⟩
  | 78 => ⟨S_, .f32⟩
  | 79 => ⟨S5376x64x128, .f32⟩
  | 80 => ⟨S5376x64x128, .f32⟩
  | 81 => ⟨S5376x64x128, .f32⟩
  | 82 => ⟨S_, .f32⟩
  | 83 => ⟨S5376x64x128, .f32⟩
  | 84 => ⟨S5376x64x128, .f32⟩
  | 85 => ⟨S5376x64x128, .f32⟩
  | 86 => ⟨S1x64, .f32⟩
  | 87 => ⟨S64, .f32⟩
  | 88 => ⟨S1x64, .f32⟩
  | 89 => ⟨S64, .f32⟩
  | 90 => ⟨S_, .f32⟩
  | 91 => ⟨S5376x64x128, .f32⟩
  | 92 => ⟨S5376x64x128, .f32⟩
  | 93 => ⟨S1x64x1, .f32⟩
  | 94 => ⟨S5376x64x128, .f32⟩
  | 95 => ⟨S5376x64x128, .f32⟩
  | 96 => ⟨S1x64x1, .f32⟩
  | 97 => ⟨S5376x64x128, .f32⟩
  | 98 => ⟨S5376x64x128, .f32⟩
  | 99 => ⟨S1x64x1x8, .f32⟩
  | 100 => ⟨S64x1x8, .f32⟩
  | 101 => ⟨S1x64, .f32⟩
  | 102 => ⟨S64, .f32⟩
  | 103 => ⟨S_, .i32⟩
  | 104 => ⟨S_, .f32⟩
  | 105 => ⟨S5376x64x135, .f32⟩
  | 106 => ⟨S5376x64x128, .f32⟩
  | 107 => ⟨S64x1x1, .f32⟩
  | 108 => ⟨S64, .f32⟩
  | 109 => ⟨S1x64x1, .f32⟩
  | 110 => ⟨S5376x64x128, .f32⟩
  | 111 => ⟨S5376x64x128, .f32⟩
  | 112 => ⟨S_, .f32⟩
  | 113 => ⟨S5376x64x128, .f32⟩
  | 114 => ⟨S5376x64x128, .f32⟩
  | 115 => ⟨S5376x64x128, .f32⟩
  | 116 => ⟨S64x1x1, .f32⟩
  | 117 => ⟨S64, .f32⟩
  | 118 => ⟨S1x64x1, .f32⟩
  | 119 => ⟨S5376x64x128, .f32⟩
  | 120 => ⟨S5376x64x128, .f32⟩
  | 121 => ⟨S5376x64x128, .f32⟩
  | 122 => ⟨S5376x64x128, .f32⟩
  | 123 => ⟨S64x1x1, .f32⟩
  | 124 => ⟨S64, .f32⟩
  | 125 => ⟨S1x64x1, .f32⟩
  | 126 => ⟨S5376x64x128, .f32⟩
  | 127 => ⟨S5376x64x128, .f32⟩
  | _ => ⟨S256x512x21, .f32⟩

abbrev hbmTy0_3 (i : Nat) : BufTy := match i % 128 with
  | 0 => ⟨S5376x64x128, .f32⟩
  | 1 => ⟨S5376x64x128, .f32⟩
  | 2 => ⟨S64x1x1, .f32⟩
  | 3 => ⟨S64, .f32⟩
  | 4 => ⟨S1x64x1, .f32⟩
  | 5 => ⟨S5376x64x128, .f32⟩
  | 6 => ⟨S5376x64x128, .f32⟩
  | 7 => ⟨S5376x64x128, .f32⟩
  | 8 => ⟨S5376x64x128, .f32⟩
  | 9 => ⟨S64x1x1, .f32⟩
  | 10 => ⟨S64, .f32⟩
  | 11 => ⟨S1x64x1, .f32⟩
  | 12 => ⟨S5376x64x128, .f32⟩
  | 13 => ⟨S5376x64x128, .f32⟩
  | 14 => ⟨S5376x64x128, .f32⟩
  | 15 => ⟨S5376x64x128, .f32⟩
  | 16 => ⟨S64x1x1, .f32⟩
  | 17 => ⟨S64, .f32⟩
  | 18 => ⟨S1x64x1, .f32⟩
  | 19 => ⟨S5376x64x128, .f32⟩
  | 20 => ⟨S5376x64x128, .f32⟩
  | 21 => ⟨S5376x64x128, .f32⟩
  | 22 => ⟨S5376x64x128, .f32⟩
  | 23 => ⟨S64x1x1, .f32⟩
  | 24 => ⟨S64, .f32⟩
  | 25 => ⟨S1x64x1, .f32⟩
  | 26 => ⟨S5376x64x128, .f32⟩
  | 27 => ⟨S5376x64x128, .f32⟩
  | 28 => ⟨S5376x64x128, .f32⟩
  | 29 => ⟨S5376x64x128, .f32⟩
  | 30 => ⟨S64x1x1, .f32⟩
  | 31 => ⟨S64, .f32⟩
  | 32 => ⟨S1x64x1, .f32⟩
  | 33 => ⟨S5376x64x128, .f32⟩
  | 34 => ⟨S5376x64x128, .f32⟩
  | 35 => ⟨S5376x64x128, .f32⟩
  | 36 => ⟨S1x64x1, .f32⟩
  | 37 => ⟨S5376x64x128, .f32⟩
  | 38 => ⟨S5376x64x128, .f32⟩
  | 39 => ⟨S_, .f32⟩
  | 40 => ⟨S5376x64x128, .f32⟩
  | 41 => ⟨S5376x64x128, .f32⟩
  | 42 => ⟨S_, .f32⟩
  | 43 => ⟨S_, .f32⟩
  | 44 => ⟨S_, .f32⟩
  | 45 => ⟨S5376x64x128, .f32⟩
  | 46 => ⟨S5376x64x128, .f32⟩
  | 47 => ⟨S5376x64x128, .f32⟩
  | 48 => ⟨S_, .f32⟩
  | 49 => ⟨S5376x64x128, .f32⟩
  | 50 => ⟨S5376x64x128, .f32⟩
  | 51 => ⟨S5376x64x128, .f32⟩
  | 52 => ⟨S1x64, .f32⟩
  | 53 => ⟨S64, .f32⟩
  | 54 => ⟨S1x64, .f32⟩
  | 55 => ⟨S64, .f32⟩
  | 56 => ⟨S_, .f32⟩
  | 57 => ⟨S5376x64x128, .f32⟩
  | 58 => ⟨S5376x64x128, .f32⟩
  | 59 => ⟨S1x64x1, .f32⟩
  | 60 => ⟨S5376x64x128, .f32⟩
  | 61 => ⟨S5376x64x128, .f32⟩
  | 62 => ⟨S1x64x1, .f32⟩
  | 63 => ⟨S5376x64x128, .f32⟩
  | 64 => ⟨S5376x64x128, .f32⟩
  | 65 => ⟨S5376x64x128, .f32⟩
  | 66 => ⟨S1x64x64x1, .f32⟩
  | 67 => ⟨S64x64x1, .f32⟩
  | 68 => ⟨S1x64, .f32⟩
  | 69 => ⟨S64, .f32⟩
  | 70 => ⟨S64x64, .f32⟩
  | 71 => ⟨S5376x128x64, .f32⟩
  | 72 => ⟨S5376x64x128, .f32⟩
  | 73 => ⟨S1x64x1, .f32⟩
  | 74 => ⟨S5376x64x128, .f32⟩
  | 75 => ⟨S5376x64x128, .f32⟩
  | 76 => ⟨S_, .f32⟩
  | 77 => ⟨S5376x64x128, .f32⟩
  | 78 => ⟨S5376x64x128, .f32⟩
  | 79 => ⟨S_, .f32⟩
  | 80 => ⟨S_, .f32⟩
  | 81 => ⟨S_, .f32⟩
  | 82 => ⟨S5376x64x128, .f32⟩
  | 83 => ⟨S5376x64x128, .f32⟩
  | 84 => ⟨S5376x64x128, .f32⟩
  | 85 => ⟨S_, .f32⟩
  | 86 => ⟨S5376x64x128, .f32⟩
  | 87 => ⟨S5376x64x128, .f32⟩
  | 88 => ⟨S5376x64x128, .f32⟩
  | 89 => ⟨S1x64, .f32⟩
  | 90 => ⟨S64, .f32⟩
  | 91 => ⟨S1x64, .f32⟩
  | 92 => ⟨S64, .f32⟩
  | 93 => ⟨S_, .f32⟩
  | 94 => ⟨S5376x64x128, .f32⟩
  | 95 => ⟨S5376x64x128, .f32⟩
  | 96 => ⟨S1x64x1, .f32⟩
  | 97 => ⟨S5376x64x128, .f32⟩
  | 98 => ⟨S5376x64x128, .f32⟩
  | 99 => ⟨S1x64x1, .f32⟩
  | 100 => ⟨S5376x64x128, .f32⟩
  | 101 => ⟨S5376x64x128, .f32⟩
  | 102 => ⟨S5376x8192, .f32⟩
  | 103 => ⟨S8192x192, .f32⟩
  | 104 => ⟨S5376x192, .f32⟩
  | 105 => ⟨S1x192, .f32⟩
  | 106 => ⟨S5376x192, .f32⟩
  | 107 => ⟨S5376x192, .f32⟩
  | 108 => ⟨S_, .f32⟩
  | 109 => ⟨S5376x192, .f32⟩
  | 110 => ⟨S5376x192, .f32⟩
  | 111 => ⟨S_, .f32⟩
  | 112 => ⟨S_, .f32⟩
  | 113 => ⟨S_, .f32⟩
  | 114 => ⟨S5376x192, .f32⟩
  | 115 => ⟨S5376x192, .f32⟩
  | 116 => ⟨S5376x192, .f32⟩
  | 117 => ⟨S_, .f32⟩
  | 118 => ⟨S5376x192, .f32⟩
  | 119 => ⟨S5376x192, .f32⟩
  | 120 => ⟨S5376x192, .f32⟩
  | 121 => ⟨S192x96, .f32⟩
  | 122 => ⟨S5376x96, .f32⟩
  | 123 => ⟨S1x96, .f32⟩
  | 124 => ⟨S5376x96, .f32⟩
  | 125 => ⟨S5376x96, .f32⟩
  | 126 => ⟨S5376x96, .f32⟩
  | 127 => ⟨S256x21x96, .f32⟩
  | _ => ⟨S256x512x21, .f32⟩

abbrev hbmTy0_4 (i : Nat) : BufTy := match i % 128 with
  | 0 => ⟨S256x96x21, .f32⟩
  | 1 => ⟨S_, .f32⟩
  | 2 => ⟨S256, .f32⟩
  | 3 => ⟨S256x1x1, .f32⟩
  | 4 => ⟨S256x96x21, .f32⟩
  | 5 => ⟨S256x96x21, .f32⟩
  | 6 => ⟨S1x1x21, .f32⟩
  | 7 => ⟨S256x96x21, .f32⟩
  | 8 => ⟨S256x96x21, .f32⟩
  | 9 => ⟨S_, .f32⟩
  | 10 => ⟨S21, .f32⟩
  | 11 => ⟨S21, .f32⟩
  | 12 => ⟨S1x1x21, .f32⟩
  | 13 => ⟨S256x96x21, .f32⟩
  | 14 => ⟨S256x96x21, .f32⟩
  | 15 => ⟨S256x96x21, .f32⟩
  | 16 => ⟨S256x96x21, .f32⟩
  | 17 => ⟨S256x96x21, .f32⟩
  | 18 => ⟨S256x96x21, .f32⟩
  | _ => ⟨S256x512x21, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x512x21, .f32⟩

abbrev bufTy : (tb : Table) → Fin (tcTables nBuf tb) → BufTy
  | .hbm, ⟨i, _⟩ => hbmTy i
  | _, _ => ⟨S256x512x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v4 : Ref sig .tc := ⟨.hbm, 52, rfl⟩
abbrev main_cst_1 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_values : Ref sig .tc := ⟨.hbm, 78, rfl⟩
abbrev main_indices : Ref sig .tc := ⟨.hbm, 79, rfl⟩
abbrev main_v29 : Ref sig .tc := ⟨.hbm, 80, rfl⟩
abbrev main_cst_2 : Ref sig .tc := ⟨.hbm, 81, rfl⟩
abbrev main_v30 : Ref sig .tc := ⟨.hbm, 82, rfl⟩
abbrev main_cst_3 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_4 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_5 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_c_6 : Ref sig .tc := ⟨.hbm, 100, rfl⟩
abbrev main_v45 : Ref sig .tc := ⟨.hbm, 101, rfl⟩
abbrev main_v46 : Ref sig .tc := ⟨.hbm, 102, rfl⟩
abbrev main_c_7 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_c_8 : Ref sig .tc := ⟨.hbm, 107, rfl⟩
abbrev main_v50 : Ref sig .tc := ⟨.hbm, 108, rfl⟩
abbrev main_v51 : Ref sig .tc := ⟨.hbm, 109, rfl⟩
abbrev main_c_9 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_10 : Ref sig .tc := ⟨.hbm, 119, rfl⟩
abbrev main_v60 : Ref sig .tc := ⟨.hbm, 120, rfl⟩
abbrev main_cst_11 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_12 : Ref sig .tc := ⟨.hbm, 125, rfl⟩
abbrev main_v64 : Ref sig .tc := ⟨.hbm, 126, rfl⟩
abbrev main_v65 : Ref sig .tc := ⟨.hbm, 127, rfl⟩
abbrev main_c_13 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_cst_0 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_v6 : Ref sig .tc := ⟨.hbm, 137, rfl⟩
abbrev main_call1_v7 : Ref sig .tc := ⟨.hbm, 138, rfl⟩
abbrev main_call1_cst_1 : Ref sig .tc := ⟨.hbm, 139, rfl⟩
abbrev main_call1_v8 : Ref sig .tc := ⟨.hbm, 140, rfl⟩
abbrev main_call1_cst_2 : Ref sig .tc := ⟨.hbm, 141, rfl⟩
abbrev main_call1_v9 : Ref sig .tc := ⟨.hbm, 142, rfl⟩
abbrev main_call1_v10 : Ref sig .tc := ⟨.hbm, 143, rfl⟩
abbrev main_call1_cst_3 : Ref sig .tc := ⟨.hbm, 144, rfl⟩
abbrev main_call1_v11 : Ref sig .tc := ⟨.hbm, 145, rfl⟩
abbrev main_call1_cst_4 : Ref sig .tc := ⟨.hbm, 146, rfl⟩
abbrev main_call1_call0_v0 : Ref sig .tc := ⟨.hbm, 147, rfl⟩
abbrev main_v66 : Ref sig .tc := ⟨.hbm, 148, rfl⟩
abbrev main_cst_14 : Ref sig .tc := ⟨.hbm, 149, rfl⟩
abbrev main_v67 : Ref sig .tc := ⟨.hbm, 150, rfl⟩
abbrev main_cst_15 : Ref sig .tc := ⟨.hbm, 151, rfl⟩
abbrev main_v68 : Ref sig .tc := ⟨.hbm, 152, rfl⟩
abbrev main_v69 : Ref sig .tc := ⟨.hbm, 153, rfl⟩
abbrev main_cst_16 : Ref sig .tc := ⟨.hbm, 154, rfl⟩
abbrev main_v70 : Ref sig .tc := ⟨.hbm, 155, rfl⟩
abbrev main_v71 : Ref sig .tc := ⟨.hbm, 156, rfl⟩
abbrev main_c_17 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_cst_1 : Ref sig .tc := ⟨.hbm, 168, rfl⟩
abbrev main_call2_v8 : Ref sig .tc := ⟨.hbm, 169, rfl⟩
abbrev main_call2_cst_2 : Ref sig .tc := ⟨.hbm, 170, rfl⟩
abbrev main_call2_v9 : Ref sig .tc := ⟨.hbm, 171, rfl⟩
abbrev main_call2_v10 : Ref sig .tc := ⟨.hbm, 172, rfl⟩
abbrev main_call2_cst_3 : Ref sig .tc := ⟨.hbm, 173, rfl⟩
abbrev main_call2_v11 : Ref sig .tc := ⟨.hbm, 174, rfl⟩
abbrev main_call2_cst_4 : Ref sig .tc := ⟨.hbm, 175, rfl⟩
abbrev main_call2_call0_v0 : Ref sig .tc := ⟨.hbm, 176, rfl⟩
abbrev main_v72 : Ref sig .tc := ⟨.hbm, 177, rfl⟩
abbrev main_cst_18 : Ref sig .tc := ⟨.hbm, 178, rfl⟩
abbrev main_v73 : Ref sig .tc := ⟨.hbm, 179, rfl⟩
abbrev main_cst_19 : Ref sig .tc := ⟨.hbm, 180, rfl⟩
abbrev main_v74 : Ref sig .tc := ⟨.hbm, 181, rfl⟩
abbrev main_v75 : Ref sig .tc := ⟨.hbm, 182, rfl⟩
abbrev main_cst_20 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_cst_21 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_c_22 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_c_23 : Ref sig .tc := ⟨.hbm, 203, rfl⟩
abbrev main_v93 : Ref sig .tc := ⟨.hbm, 204, rfl⟩
abbrev main_v94 : Ref sig .tc := ⟨.hbm, 205, rfl⟩
abbrev main_c_24 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_c_25 : Ref sig .tc := ⟨.hbm, 228, rfl⟩
abbrev main_call3_v0 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_cst_26 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_cst_27 : Ref sig .tc := ⟨.hbm, 292, rfl⟩
abbrev main_v177 : Ref sig .tc := ⟨.hbm, 293, rfl⟩
abbrev main_v178 : Ref sig .tc := ⟨.hbm, 294, rfl⟩
abbrev main_cst_28 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_29 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_cst_30 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_cst_31 : Ref sig .tc := ⟨.hbm, 329, rfl⟩
abbrev main_v210 : Ref sig .tc := ⟨.hbm, 330, rfl⟩
abbrev main_v211 : Ref sig .tc := ⟨.hbm, 331, rfl⟩
abbrev main_cst_32 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_cst_33 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_v223 : Ref sig .tc := ⟨.hbm, 345, rfl⟩
abbrev main_cst_34 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_c_35 : Ref sig .tc := ⟨.hbm, 359, rfl⟩
abbrev main_call4_v0 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_cst_36 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_v259 : Ref sig .tc := ⟨.hbm, 385, rfl⟩
abbrev main_v260 : Ref sig .tc := ⟨.hbm, 386, rfl⟩
abbrev main_v261 : Ref sig .tc := ⟨.hbm, 387, rfl⟩
abbrev main_v262 : Ref sig .tc := ⟨.hbm, 388, rfl⟩
abbrev main_v263 : Ref sig .tc := ⟨.hbm, 389, rfl⟩
abbrev main_v264 : Ref sig .tc := ⟨.hbm, 390, rfl⟩
abbrev main_v265 : Ref sig .tc := ⟨.hbm, 391, rfl⟩
abbrev main_v266 : Ref sig .tc := ⟨.hbm, 392, rfl⟩
abbrev main_v267 : Ref sig .tc := ⟨.hbm, 393, rfl⟩
abbrev main_v268 : Ref sig .tc := ⟨.hbm, 394, rfl⟩
abbrev main_v269 : Ref sig .tc := ⟨.hbm, 395, rfl⟩
abbrev main_v270 : Ref sig .tc := ⟨.hbm, 396, rfl⟩
abbrev main_v271 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_v277 : Ref sig .tc := ⟨.hbm, 403, rfl⟩
abbrev main_v278 : Ref sig .tc := ⟨.hbm, 404, rfl⟩
abbrev main_v279 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_v289 : Ref sig .tc := ⟨.hbm, 415, rfl⟩
abbrev main_v290 : Ref sig .tc := ⟨.hbm, 416, rfl⟩
abbrev main_v291 : Ref sig .tc := ⟨.hbm, 417, rfl⟩
abbrev main_v292 : Ref sig .tc := ⟨.hbm, 418, rfl⟩
abbrev main_v293 : Ref sig .tc := ⟨.hbm, 419, rfl⟩
abbrev main_v294 : Ref sig .tc := ⟨.hbm, 420, rfl⟩
abbrev main_v295 : Ref sig .tc := ⟨.hbm, 421, rfl⟩
abbrev main_v296 : Ref sig .tc := ⟨.hbm, 422, rfl⟩
abbrev main_cst_37 : Ref sig .tc := ⟨.hbm, 423, rfl⟩
abbrev main_v297 : Ref sig .tc := ⟨.hbm, 424, rfl⟩
abbrev main_v298 : Ref sig .tc := ⟨.hbm, 425, rfl⟩
abbrev main_cst_38 : Ref sig .tc := ⟨.hbm, 426, rfl⟩
abbrev main_v299 : Ref sig .tc := ⟨.hbm, 427, rfl⟩
abbrev main_v300 : Ref sig .tc := ⟨.hbm, 428, rfl⟩
abbrev main_v301 : Ref sig .tc := ⟨.hbm, 429, rfl⟩
abbrev main_v302 : Ref sig .tc := ⟨.hbm, 430, rfl⟩
abbrev main_v303 : Ref sig .tc := ⟨.hbm, 431, rfl⟩
abbrev main_cst_39 : Ref sig .tc := ⟨.hbm, 432, rfl⟩
abbrev main_v304 : Ref sig .tc := ⟨.hbm, 433, rfl⟩
abbrev main_v305 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_cst_40 : Ref sig .tc := ⟨.hbm, 440, rfl⟩
abbrev main_v311 : Ref sig .tc := ⟨.hbm, 441, rfl⟩
abbrev main_v312 : Ref sig .tc := ⟨.hbm, 442, rfl⟩
abbrev main_v313 : Ref sig .tc := ⟨.hbm, 443, rfl⟩
abbrev main_v314 : Ref sig .tc := ⟨.hbm, 444, rfl⟩
abbrev main_v315 : Ref sig .tc := ⟨.hbm, 445, rfl⟩
abbrev main_v316 : Ref sig .tc := ⟨.hbm, 446, rfl⟩
abbrev main_v317 : Ref sig .tc := ⟨.hbm, 447, rfl⟩
abbrev main_v318 : Ref sig .tc := ⟨.hbm, 448, rfl⟩
abbrev main_v319 : Ref sig .tc := ⟨.hbm, 449, rfl⟩
abbrev main_v320 : Ref sig .tc := ⟨.hbm, 450, rfl⟩
abbrev main_v321 : Ref sig .tc := ⟨.hbm, 451, rfl⟩
abbrev main_v322 : Ref sig .tc := ⟨.hbm, 452, rfl⟩
abbrev main_v323 : Ref sig .tc := ⟨.hbm, 453, rfl⟩
abbrev main_v324 : Ref sig .tc := ⟨.hbm, 454, rfl⟩
abbrev main_v325 : Ref sig .tc := ⟨.hbm, 455, rfl⟩
abbrev main_v326 : Ref sig .tc := ⟨.hbm, 456, rfl⟩
abbrev main_v327 : Ref sig .tc := ⟨.hbm, 457, rfl⟩
abbrev main_v328 : Ref sig .tc := ⟨.hbm, 458, rfl⟩
abbrev main_v329 : Ref sig .tc := ⟨.hbm, 459, rfl⟩
abbrev main_cst_41 : Ref sig .tc := ⟨.hbm, 460, rfl⟩
abbrev main_v330 : Ref sig .tc := ⟨.hbm, 461, rfl⟩
abbrev main_v331 : Ref sig .tc := ⟨.hbm, 462, rfl⟩
abbrev main_cst_42 : Ref sig .tc := ⟨.hbm, 463, rfl⟩
abbrev main_v332 : Ref sig .tc := ⟨.hbm, 464, rfl⟩
abbrev main_v333 : Ref sig .tc := ⟨.hbm, 465, rfl⟩
abbrev main_v334 : Ref sig .tc := ⟨.hbm, 466, rfl⟩
abbrev main_v335 : Ref sig .tc := ⟨.hbm, 467, rfl⟩
abbrev main_v336 : Ref sig .tc := ⟨.hbm, 468, rfl⟩
abbrev main_cst_43 : Ref sig .tc := ⟨.hbm, 469, rfl⟩
abbrev main_v337 : Ref sig .tc := ⟨.hbm, 470, rfl⟩
abbrev main_v338 : Ref sig .tc := ⟨.hbm, 471, rfl⟩
abbrev main_v339 : Ref sig .tc := ⟨.hbm, 472, rfl⟩
abbrev main_v340 : Ref sig .tc := ⟨.hbm, 473, rfl⟩
abbrev main_v341 : Ref sig .tc := ⟨.hbm, 474, rfl⟩
abbrev main_v342 : Ref sig .tc := ⟨.hbm, 475, rfl⟩
abbrev main_v343 : Ref sig .tc := ⟨.hbm, 476, rfl⟩
abbrev main_cst_44 : Ref sig .tc := ⟨.hbm, 477, rfl⟩
abbrev main_v344 : Ref sig .tc := ⟨.hbm, 478, rfl⟩
abbrev main_v345 : Ref sig .tc := ⟨.hbm, 479, rfl⟩
abbrev main_v346 : Ref sig .tc := ⟨.hbm, 480, rfl⟩
abbrev main_v347 : Ref sig .tc := ⟨.hbm, 481, rfl⟩
abbrev main_v348 : Ref sig .tc := ⟨.hbm, 482, rfl⟩
abbrev main_v349 : Ref sig .tc := ⟨.hbm, 483, rfl⟩
abbrev main_v350 : Ref sig .tc := ⟨.hbm, 484, rfl⟩
abbrev main_v351 : Ref sig .tc := ⟨.hbm, 485, rfl⟩
abbrev main_v352 : Ref sig .tc := ⟨.hbm, 486, rfl⟩
abbrev main_v353 : Ref sig .tc := ⟨.hbm, 487, rfl⟩
abbrev main_v354 : Ref sig .tc := ⟨.hbm, 488, rfl⟩
abbrev main_v355 : Ref sig .tc := ⟨.hbm, 489, rfl⟩
abbrev main_v356 : Ref sig .tc := ⟨.hbm, 490, rfl⟩
abbrev main_v357 : Ref sig .tc := ⟨.hbm, 491, rfl⟩
abbrev main_cst_45 : Ref sig .tc := ⟨.hbm, 492, rfl⟩
abbrev main_v358 : Ref sig .tc := ⟨.hbm, 493, rfl⟩
abbrev main_v359 : Ref sig .tc := ⟨.hbm, 494, rfl⟩
abbrev main_cst_46 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩
abbrev main_cst_47 : Ref sig .tc := ⟨.hbm, 501, rfl⟩
abbrev main_v365 : Ref sig .tc := ⟨.hbm, 502, rfl⟩
abbrev main_v366 : Ref sig .tc := ⟨.hbm, 503, rfl⟩
abbrev main_v367 : Ref sig .tc := ⟨.hbm, 504, rfl⟩
abbrev main_v368 : Ref sig .tc := ⟨.hbm, 505, rfl⟩
abbrev main_v369 : Ref sig .tc := ⟨.hbm, 506, rfl⟩
abbrev main_v370 : Ref sig .tc := ⟨.hbm, 507, rfl⟩
abbrev main_v371 : Ref sig .tc := ⟨.hbm, 508, rfl⟩
abbrev main_v372 : Ref sig .tc := ⟨.hbm, 509, rfl⟩
abbrev main_v373 : Ref sig .tc := ⟨.hbm, 510, rfl⟩
abbrev main_v374 : Ref sig .tc := ⟨.hbm, 511, rfl⟩
abbrev main_v375 : Ref sig .tc := ⟨.hbm, 512, rfl⟩
abbrev main_cst_48 : Ref sig .tc := ⟨.hbm, 513, rfl⟩
abbrev main_v376 : Ref sig .tc := ⟨.hbm, 514, rfl⟩
abbrev main_v377 : Ref sig .tc := ⟨.hbm, 515, rfl⟩
abbrev main_v378 : Ref sig .tc := ⟨.hbm, 516, rfl⟩
abbrev main_v379 : Ref sig .tc := ⟨.hbm, 517, rfl⟩
abbrev main_v380 : Ref sig .tc := ⟨.hbm, 518, rfl⟩
abbrev main_v381 : Ref sig .tc := ⟨.hbm, 519, rfl⟩
abbrev main_v382 : Ref sig .tc := ⟨.hbm, 520, rfl⟩
abbrev main_cst_49 : Ref sig .tc := ⟨.hbm, 521, rfl⟩
abbrev main_v383 : Ref sig .tc := ⟨.hbm, 522, rfl⟩
abbrev main_v384 : Ref sig .tc := ⟨.hbm, 523, rfl⟩
abbrev main_v385 : Ref sig .tc := ⟨.hbm, 524, rfl⟩
abbrev main_v386 : Ref sig .tc := ⟨.hbm, 525, rfl⟩
abbrev main_v387 : Ref sig .tc := ⟨.hbm, 526, rfl⟩
abbrev main_v388 : Ref sig .tc := ⟨.hbm, 527, rfl⟩
abbrev main_v389 : Ref sig .tc := ⟨.hbm, 528, rfl⟩
abbrev main_v390 : Ref sig .tc := ⟨.hbm, 529, rfl⟩
abbrev main_v391 : Ref sig .tc := ⟨.hbm, 530, rfl⟩

abbrev nD : Nat := 1
abbrev τ : Topo := Topo.v7x

variable {F : FTy → Type} [FloatOps F]
-- ==== Proof.KernelIdealRegion0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The launch of the expert network region: what each block holds, what the body leaves, the obligation of the pipeline -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__expert_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S96x512 := Rect.unit (s := S96x512) ![0, 0] S96x512.size inb_S96x512_S96x512_0_0
abbrev r0_1 : Rect S96x1 := Rect.unit (s := S96x1) ![0, 0] S96x1.size inb_S96x1_S96x1_0_0
abbrev r0_2 : Rect S16x128 := Rect.unit (s := S16x128) ![0, 0] S16x128.size inb_S16x128_S16x128_0_0
abbrev r0_3 : Rect S1x128 := Rect.unit (s := S1x128) ![0, 0] S1x128.size inb_S1x128_S1x128_0_0
abbrev r0_4 : Rect S1x96 := Rect.unit (s := S1x96) ![0, 0] S1x96.size inb_S1x96_S1x96_0_0
abbrev r0_5 : Rect S64x128x96 := Rect.unit (s := S64x128x96) ![0, 0, 0] S16x128x96.size inb_S64x128x96_S16x128x96_0_0_0
abbrev r0_6 : Rect S64x128x96 := Rect.unit (s := S64x128x96) ![16, 0, 0] S16x128x96.size inb_S64x128x96_S16x128x96_16_0_0
abbrev r0_7 : Rect S64x128x96 := Rect.unit (s := S64x128x96) ![32, 0, 0] S16x128x96.size inb_S64x128x96_S16x128x96_32_0_0
abbrev r0_8 : Rect S64x128x96 := Rect.unit (s := S64x128x96) ![48, 0, 0] S16x128x96.size inb_S64x128x96_S16x128x96_48_0_0
abbrev r0_9 : Rect S2x64x8 := Rect.unit (s := S2x64x8) ![0, 0, 0] S1x64x1.size inb_S2x64x8_S1x64x1_0_0_0
abbrev r0_10 : Rect S2x64x8 := Rect.unit (s := S2x64x8) ![0, 0, 1] S1x64x1.size inb_S2x64x8_S1x64x1_0_0_1
abbrev r0_11 : Rect S2x64x8 := Rect.unit (s := S2x64x8) ![0, 0, 2] S1x64x1.size inb_S2x64x8_S1x64x1_0_0_2
abbrev r0_12 : Rect S2x64x8 := Rect.unit (s := S2x64x8) ![0, 0, 3] S1x64x1.size inb_S2x64x8_S1x64x1_0_0_3
abbrev r0_13 : Rect S2x64x8 := Rect.unit (s := S2x64x8) ![0, 0, 4] S1x64x1.size inb_S2x64x8_S1x64x1_0_0_4
abbrev r0_14 : Rect S2x64x8 := Rect.unit (s := S2x64x8) ![0, 0, 5] S1x64x1.size inb_S2x64x8_S1x64x1_0_0_5
abbrev r0_15 : Rect S2x64x8 := Rect.unit (s := S2x64x8) ![0, 0, 6] S1x64x1.size inb_S2x64x8_S1x64x1_0_0_6
abbrev r0_16 : Rect S2x64x8 := Rect.unit (s := S2x64x8) ![0, 0, 7] S1x64x1.size inb_S2x64x8_S1x64x1_0_0_7
abbrev r0_17 : Rect S2x64 := Rect.unit (s := S2x64) ![0, 0] S1x64.size inb_S2x64_S1x64_0_0
abbrev r0_18 : Rect S64x64 := Rect.unit (s := S64x64) ![0, 0] S64x64.size inb_S64x64_S64x64_0_0
abbrev r0_19 : Rect S2x64x8 := Rect.unit (s := S2x64x8) ![1, 0, 0] S1x64x1.size inb_S2x64x8_S1x64x1_1_0_0
abbrev r0_20 : Rect S2x64x8 := Rect.unit (s := S2x64x8) ![1, 0, 1] S1x64x1.size inb_S2x64x8_S1x64x1_1_0_1
abbrev r0_21 : Rect S2x64x8 := Rect.unit (s := S2x64x8) ![1, 0, 2] S1x64x1.size inb_S2x64x8_S1x64x1_1_0_2
abbrev r0_22 : Rect S2x64x8 := Rect.unit (s := S2x64x8) ![1, 0, 3] S1x64x1.size inb_S2x64x8_S1x64x1_1_0_3
abbrev r0_23 : Rect S2x64x8 := Rect.unit (s := S2x64x8) ![1, 0, 4] S1x64x1.size inb_S2x64x8_S1x64x1_1_0_4
abbrev r0_24 : Rect S2x64x8 := Rect.unit (s := S2x64x8) ![1, 0, 5] S1x64x1.size inb_S2x64x8_S1x64x1_1_0_5
abbrev r0_25 : Rect S2x64x8 := Rect.unit (s := S2x64x8) ![1, 0, 6] S1x64x1.size inb_S2x64x8_S1x64x1_1_0_6
abbrev r0_26 : Rect S2x64x8 := Rect.unit (s := S2x64x8) ![1, 0, 7] S1x64x1.size inb_S2x64x8_S1x64x1_1_0_7
abbrev r0_27 : Rect S2x64 := Rect.unit (s := S2x64) ![1, 0] S1x64.size inb_S2x64_S1x64_1_0
abbrev r0_28 : Rect S1x192 := Rect.unit (s := S1x192) ![0, 0] S1x192.size inb_S1x192_S1x192_0_0
abbrev r0_29 : Rect S64x128x192 := Rect.unit (s := S64x128x192) ![0, 0, 0] S16x128x192.size inb_S64x128x192_S16x128x192_0_0_0
abbrev r0_30 : Rect S64x128x192 := Rect.unit (s := S64x128x192) ![16, 0, 0] S16x128x192.size inb_S64x128x192_S16x128x192_16_0_0
abbrev r0_31 : Rect S64x128x192 := Rect.unit (s := S64x128x192) ![32, 0, 0] S16x128x192.size inb_S64x128x192_S16x128x192_32_0_0
abbrev r0_32 : Rect S64x128x192 := Rect.unit (s := S64x128x192) ![48, 0, 0] S16x128x192.size inb_S64x128x192_S16x128x192_48_0_0
abbrev r0_33 : Rect S192x96 := Rect.unit (s := S192x96) ![0, 0] S192x96.size inb_S192x96_S192x96_0_0
abbrev r0_34 : Rect S96x96 := Rect.unit (s := S96x96) ![0, 0] S96x96.size inb_S96x96_S96x96_0_0

/-! ## What the body leaves in each output window's buffer -/

/-! ### Values of the body that the stores' payloads, spelt out, would write more than once

    Each is a vector the body binds (often a part call's result), stated over the input windows' blocks and
    numbered on from the skeleton's payload functions (`k0_pay26` …, after `k0_pay25`), so that
    `out0_W` and the values after it name it instead of spelling it out (`unfold_out out0_W` opens a canon
    with them, `unfold_payloads` opens them with the payloads); the comment after each is the printed function's
    name for the value (a count appended where that name is bound again). -/

def k0_pay26 (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) : FVec F S96x64x128 .f32 :=
  k0_pay8 (View.ld x0 r0_0) (View.ld x1 r0_1) (View.ld x2 r0_1) (View.ld x3 r0_2) (View.ld x4 r0_3) -- `v42`
def k0_pay27 (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) : FVec F S96x64x135 .f32 :=
  k0_pay10 (k0_pay26 x0 x1 x2 x3 x4 x5 x6 x7 x8 x9 x10 x11 x12 x13 x14 x15 x16 x17 x18 x19) -- `v75`
def k0_pay28 (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) : FVec F S64x96x128 .f32 :=
  k0_pay14 (k0_pay26 x0 x1 x2 x3 x4 x5 x6 x7 x8 x9 x10 x11 x12 x13 x14 x15 x16 x17 x18 x19) (k0_pay27 x0 x1 x2 x3 x4 x5 x6 x7 x8 x9 x10 x11 x12 x13 x14 x15 x16 x17 x18 x19) (k0_pay12 (k0_pay27 x0 x1 x2 x3 x4 x5 x6 x7 x8 x9 x10 x11 x12 x13 x14 x15 x16 x17 x18 x19) (k0_pay11 (k0_pay26 x0 x1 x2 x3 x4 x5 x6 x7 x8 x9 x10 x11 x12 x13 x14 x15 x16 x17 x18 x19)) (View.ld x11 r0_9) (View.ld x11 r0_10) (View.ld x11 r0_11) (View.ld x11 r0_12) (View.ld x11 r0_13) (View.ld x11 r0_14)) (k0_pay13 (k0_pay27 x0 x1 x2 x3 x4 x5 x6 x7 x8 x9 x10 x11 x12 x13 x14 x15 x16 x17 x18 x19)) (View.ld x11 r0_15) (View.ld x11 r0_16) (View.ld x12 r0_17) (View.ld x13 r0_17) (View.ld x14 r0_17) (View.ld x15 r0_18) -- `v158`
def k0_pay29 (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) : FVec F S64x1x1 .f32 :=
  k0_pay15 (View.ld x17 r0_17) -- `v161`
def k0_pay30 (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) : FVec F S64x96x128 .f32 :=
  k0_pay22 (k0_pay16 (k0_pay28 x0 x1 x2 x3 x4 x5 x6 x7 x8 x9 x10 x11 x12 x13 x14 x15 x16 x17 x18 x19) (k0_pay29 x0 x1 x2 x3 x4 x5 x6 x7 x8 x9 x10 x11 x12 x13 x14 x15 x16 x17 x18 x19) (View.ld x18 r0_17) (View.ld x19 r0_17)) (k0_pay21 (k0_pay17 (k0_pay28 x0 x1 x2 x3 x4 x5 x6 x7 x8 x9 x10 x11 x12 x13 x14 x15 x16 x17 x18 x19) (k0_pay29 x0 x1 x2 x3 x4 x5 x6 x7 x8 x9 x10 x11 x12 x13 x14 x15 x16 x17 x18 x19) (View.ld x18 r0_17) (View.ld x19 r0_17)) (k0_pay18 (k0_pay28 x0 x1 x2 x3 x4 x5 x6 x7 x8 x9 x10 x11 x12 x13 x14 x15 x16 x17 x18 x19) (k0_pay29 x0 x1 x2 x3 x4 x5 x6 x7 x8 x9 x10 x11 x12 x13 x14 x15 x16 x17 x18 x19) (View.ld x18 r0_17) (View.ld x19 r0_17) (View.ld x11 r0_19) (View.ld x11 r0_20)) (k0_pay19 (k0_pay28 x0 x1 x2 x3 x4 x5 x6 x7 x8 x9 x10 x11 x12 x13 x14 x15 x16 x17 x18 x19) (k0_pay29 x0 x1 x2 x3 x4 x5 x6 x7 x8 x9 x10 x11 x12 x13 x14 x15 x16 x17 x18 x19) (View.ld x18 r0_17) (View.ld x19 r0_17)) (k0_pay20 (View.ld x11 r0_21)) (View.ld x11 r0_22) (View.ld x11 r0_23) (View.ld x11 r0_24) (View.ld x11 r0_25) (View.ld x11 r0_26) (View.ld x12 r0_27)) (Scalar.ofBits .f32 0x3F000000#32) (View.ld x13 r0_27) (View.ld x14 r0_27) (View.ld x16 r0_18) (View.ld x17 r0_27) (View.ld x18 r0_27) -- `v287`

/-- Window 20's staging buffer after the body, from the input windows' blocks: its 1 store as pieces, LAST
    FIRST (Lib/Pipeline/FrameBody.lean `View.canon`; the payloads are the skeleton's and the values stated above). -/
def out0_20 (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) : Vec F S96x96 .f32 :=
  View.canon [⟨r0_34, k0_pay1 (k0_pay3 (View.ld x0 r0_0)) (k0_pay5 (View.ld x0 r0_0)) (k0_pay6 (View.ld x1 r0_1)) (k0_pay7 (View.ld x2 r0_1)) (k0_pay9 (k0_pay26 x0 x1 x2 x3 x4 x5 x6 x7 x8 x9 x10 x11 x12 x13 x14 x15 x16 x17 x18 x19) (View.ld x6 r0_4) (View.ld x5 r0_5) (View.ld x5 r0_6) (View.ld x5 r0_7) (View.ld x5 r0_8)) (k0_pay24 (k0_pay30 x0 x1 x2 x3 x4 x5 x6 x7 x8 x9 x10 x11 x12 x13 x14 x15 x16 x17 x18 x19) (View.ld x19 r0_27) (View.ld x8 r0_28) (View.ld x7 r0_29) (View.ld x7 r0_30) (View.ld x7 r0_31) (View.ld x7 r0_32)) (k0_pay25 (k0_pay30 x0 x1 x2 x3 x4 x5 x6 x7 x8 x9 x10 x11 x12 x13 x14 x15 x16 x17 x18 x19) (View.ld x19 r0_27) (View.ld x8 r0_28) (View.ld x7 r0_29) (View.ld x7 r0_30) (View.ld x7 r0_31) (View.ld x7 r0_32)) (View.ld x9 r0_33) (View.ld x10 r0_4)⟩]

/-- Its stores tile the buffer (checked by evaluation), so they cover it. -/
theorem cover0_20 (p0 : Vec F S96x96 .f32) (y : S96x96.Idx) :
    ∃ pc ∈ ([⟨r0_34, p0⟩] : List (View.Piece (Elt F) S96x96 .f32)), y ∈ pc.1.set :=
  View.cover_of_tiled [⟨r0_34, p0⟩] S96x96.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S96x512 .f32) (harg1 : arg1.IsWhole) (arg2 : Memref sig .tc .vmem S96x1 .f32) (harg2 : arg2.IsWhole) (arg3 : Memref sig .tc .vmem S96x1 .f32) (harg3 : arg3.IsWhole) (arg4 : Memref sig .tc .vmem S16x128 .bf16) (harg4 : arg4.IsWhole) (arg5 : Memref sig .tc .vmem S1x128 .f32) (harg5 : arg5.IsWhole) (arg6 : Memref sig .tc .vmem S64x128x96 .bf16) (harg6 : arg6.IsWhole) (arg7 : Memref sig .tc .vmem S1x96 .f32) (harg7 : arg7.IsWhole) (arg8 : Memref sig .tc .vmem S64x128x192 .bf16) (harg8 : arg8.IsWhole) (arg9 : Memref sig .tc .vmem S1x192 .f32) (harg9 : arg9.IsWhole) (arg10 : Memref sig .tc .vmem S192x96 .bf16) (harg10 : arg10.IsWhole) (arg11 : Memref sig .tc .vmem S1x96 .f32) (harg11 : arg11.IsWhole) (arg12 : Memref sig .tc .vmem S2x64x8 .f32) (harg12 : arg12.IsWhole) (arg13 : Memref sig .tc .vmem S2x64 .f32) (harg13 : arg13.IsWhole) (arg14 : Memref sig .tc .vmem S2x64 .f32) (harg14 : arg14.IsWhole) (arg15 : Memref sig .tc .vmem S2x64 .f32) (harg15 : arg15.IsWhole) (arg16 : Memref sig .tc .vmem S64x64 .bf16) (harg16 : arg16.IsWhole) (arg17 : Memref sig .tc .vmem S64x64 .bf16) (harg17 : arg17.IsWhole) (arg18 : Memref sig .tc .vmem S2x64 .f32) (harg18 : arg18.IsWhole) (arg19 : Memref sig .tc .vmem S2x64 .f32) (harg19 : arg19.IsWhole) (arg20 : Memref sig .tc .vmem S2x64 .f32) (harg20 : arg20.IsWhole) (arg21 : Memref sig .tc .vmem S96x96 .f32) (harg21 : arg21.IsWhole)
    (x0 : Vec F S96x512 .f32) (x1 : Vec F S96x1 .f32) (x2 : Vec F S96x1 .f32) (x3 : Vec F S16x128 .bf16) (x4 : Vec F S1x128 .f32) (x5 : Vec F S64x128x96 .bf16) (x6 : Vec F S1x96 .f32) (x7 : Vec F S64x128x192 .bf16) (x8 : Vec F S1x192 .f32) (x9 : Vec F S192x96 .bf16) (x10 : Vec F S1x96 .f32) (x11 : Vec F S2x64x8 .f32) (x12 : Vec F S2x64 .f32) (x13 : Vec F S2x64 .f32) (x14 : Vec F S2x64 .f32) (x15 : Vec F S64x64 .bf16) (x16 : Vec F S64x64 .bf16) (x17 : Vec F S2x64 .f32) (x18 : Vec F S2x64 .f32) (x19 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19)) -∗ K ⟨⟩))
      ⊢ wp frame (wpE (defs₀ (F := F)) Variants.none c none) E (cc0__expert_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__expert_body_eq_skeleton]; unfold cc0__expert_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  refine (View.read_writes_eq_canon _ _ _ (cover0_20 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    | ⟨_ + 21, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel0 c Set.univ (grid0.coords t) _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run
end
-- ==== Proof.KernelIdealRegion1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The launch of the gating region: what each block holds, what the body leaves, the obligation of the pipeline -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__gating_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x4 := Rect.unit (s := S256x4) ![0, 0] S256x4.size inb_S256x4_S256x4_0_0
abbrev r1_1 : Rect S1x1 := Rect.unit (s := S1x1) ![0, 0] S1x1.size inb_S1x1_S1x1_0_0

/-! ## What the body leaves in each output window's buffer -/

/-- Window 1's staging buffer after the body, from the input windows' blocks: its 1 store as pieces, LAST
    FIRST (Lib/Pipeline/FrameBody.lean `View.canon`; the payloads are the skeleton's). -/
def out1_1 (x0 : Vec F S256x4 .f32) : Vec F S1x1 .f32 :=
  View.canon [⟨r1_1, k1_pay1 (k1_pay2 (View.ld x0 r1_0)) (k1_pay3 (View.ld x0 r1_0)) (Scalar.ofBits .f32 0x00000000#32)⟩]

/-- Its stores tile the buffer (checked by evaluation), so they cover it. -/
theorem cover1_1 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs (Lib/Exec.lean), through every part call. -/
theorem sound_kernel1 (c : Dev nD) (E : Set ℕ) (arg0 : Memref sig .tc .vmem S256x4 .f32) (harg0 : arg0.IsWhole) (arg1 : Memref sig .tc .vmem S1x1 .f32) (harg1 : arg1.IsWhole)
    (x0 : Vec F S256x4 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__gating_body arg0 harg0 arg1 harg1) K := by
  simp only [cc1__gating_body_eq_skeleton]; unfold cc1__gating_body_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run
end
-- ==== Proof.KernelIdealRun.lean ====
module

public import proofs.«01_k».proof.Proof.KernelIdealRegion0
public import proofs.«01_k».proof.Proof.KernelIdealRegion1

/-! # The run of the whole program: the contents of the buffers at each boundary, the two regions, the frame -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24, main_call0_cst, main_call0_v25, main_call0_v26, main_call0_cst_0, main_call0_v27, main_call0_v28, main_call0_v29, main_call0_v30, main_call0_v31, main_call0_v32, main_call0_v33, main_call0_v34]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v36, main_v0_0, main_call0_cst_1, main_call0_v38, main_call0_v39, main_call0_cst_2, main_call0_v40, main_call0_v41, main_call0_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_v12, main_call0_call0_cst_3, main_call0_call0_v13, main_call0_call0_cst_4, main_call0_call0_call0_v0, main_call0_call0_call0_v1, main_call0_v42, main_call0_cst_3, main_call0_v43, main_call0_v44, main_call0_v45, main_call0_v46, main_call0_v47, main_call0_v48, main_call0_v49, main_call0_v50, main_call0_v51, main_call0_v52, main_call0_v53, main_call0_v54, main_call0_v55, main_call0_v56, main_call0_v57, main_call0_v58, main_call0_v59, main_call0_v60, main_call0_v61, main_call0_v62, main_call0_v63, main_call0_v64, main_call0_v65, main_call0_v66]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v0_1]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
set_option maxHeartbeats 8000000 in
/-- Every run from any memory with zero counters ends, nothing faulting, with every buffer at the last boundary's
    contents and every semaphore counter at zero. -/
theorem final : θ_run defs (onTc (τ := τ) (main (F := F))) ⟨m, fun _ => 0, ρ⟩ (fun r =>
      (∀ c : Dev nD, ∀ b : Ref sig .tc, ¬ (Proc.devRef .tc b : DevRef τ sig).isScoped →
        r.2.mem ((c.tc : Thread nD τ).loc b) = W5 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b hb), funext fun g => hz g (.inr (no_unscoped g.2))⟩)

/-- No argument array is scoped. -/
theorem args_unscoped : ∀ a ∈ argRefs, ¬ (Proc.devRef .tc a : DevRef τ sig).isScoped :=
  ListAll.forall_mem_of_all_decide (by decide +kernel)

/-- Every argument array ends as it was launched, and every semaphore counter at zero. -/
theorem args_final : θ_run defs (onTc (τ := τ) (main (F := F))) ⟨m, fun _ => 0, ρ⟩ (fun r =>
      (∀ c : Dev nD, ∀ a ∈ argRefs, r.2.mem ((c.tc : Thread nD τ).loc a) = m ((c.tc : Thread nD τ).loc a)) ∧ r.2.sem = fun _ => 0) :=
  (θ_run defs _ _).mono (fun _ h => ⟨fun c a ha => (h.1 c a (args_unscoped a ha)).trans (W5_args m ρ c a ha), h.2⟩) (final m ρ)

end Cert.KernelIdeal.Run
end
-- ==== Proof.Frames.lean ====
module

public import proofs.«01_k».proof.Defs
public import proofs.«01_k».proof.Proof.KernelRun
public import proofs.«01_k».proof.Proof.KernelIdealRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_gating_finite
public import Idealize.ShloMosaic.Lib.Claim

/-! # The frames of the three programs, and the named constant -/

@[expose] public section
set_option maxRecDepth 16384
set_option maxHeartbeats 1600000
noncomputable section

namespace Cert.Frames
open Idealize.ShloMosaic Idealize.ShloMosaic.TcCoe Idealize.SL.Sem

/-- The kernel ends, faults nowhere, and leaves its arguments and the counters as they were. -/
theorem kernel : Cert.quiescent_Kernel := fun m g _ =>
  (θ_run Cert.Kernel.defs _ _).mono (fun _ h => ⟨fun c => by
    refine ⟨?_, ?_, ?_, ?_, ?_, ?_, ?_, ?_, ?_, ?_, ?_, ?_, ?_, ?_, ?_, ?_, ?_, ?_, ?_, ?_, ?_, ?_, ?_⟩ <;>
      exact h.1 c _ (by simp only [Cert.Kernel.Run.argRefs, List.mem_cons, true_or, or_true]), h.2⟩)
    (Cert.Kernel.Run.args_final (F := Bits) m g)

/-- The kernel on extended reals ends, faults nowhere, and leaves its arguments and the counters as they were. -/
theorem kernelIdeal : Cert.quiescent_KernelIdeal := fun m g _ =>
  (θ_run Cert.KernelIdeal.defs _ _).mono (fun _ h => ⟨fun c => by
    refine ⟨?_, ?_, ?_, ?_, ?_, ?_, ?_, ?_, ?_, ?_, ?_, ?_, ?_, ?_, ?_, ?_, ?_, ?_, ?_, ?_, ?_, ?_, ?_⟩ <;>
      exact h.1 c _ (by simp only [Cert.KernelIdeal.Run.argRefs, List.mem_cons, true_or, or_true]), h.2⟩)
    (Cert.KernelIdeal.Run.args_final (F := Ideal) m g)

/-- The reference on extended reals ends, faults nowhere, and leaves its arguments and the counters as they were. -/
theorem reference : Cert.quiescent_ReferenceIdeal := by
  intro m g _
  refine (θ_run Cert.ReferenceIdeal.defs _ _).mono (fun r h => ⟨fun c => (h c).2.2, ?_⟩) (Cert.ReferenceIdeal.Value.run (F := Ideal) m g)
  exact funext fun s => nomatch s.2

/-- Under the precondition the kernel's frame holds all the more. -/
theorem kernelIdeal_pre : Cert.quiescent_KernelIdeal_pre_gating_finite := fun m g _ => kernelIdeal m g trivial

/-- Under the precondition the reference's frame holds all the more. -/
theorem reference_pre : Cert.quiescent_ReferenceIdeal_pre_gating_finite := fun m g _ => reference m g trivial

/-- The named constant is the kernel's f32 number nearest to `1/√2`. -/
theorem named : Cert.preserves_Kernel_KernelIdeal :=
  IdealRules.named_const.statement Cert.KernelIdeal.κ "inv_sqrt2" .f32 0x3F3504F3#32 (((Real.sqrt 2)⁻¹ : ℝ) : EReal) rfl

end Cert.Frames
end
-- ==== Proof.Spec.lean ====
module

public import Idealize.ShloMosaic.Lib.Pointwise
public import Idealize.ShloMosaic.Lib.IdealHost

/-! # The expert network on one series, as plain functions on extended reals

A series is 512 numbers. The network normalises it, cuts it into 64 overlapping windows of 16, maps every window to 128
features, sends the result through two convolution blocks and two linear heads, and undoes the normalisation. Both
programs are compared with these functions, a series at a time. -/

@[expose] public section
noncomputable section

namespace Cert.Spec
open Idealize.ShloMosaic

/-- The f32 numbers 1/2, 512, 1e-5, and 1e-10 of both programs. -/
def half : EReal := Ideal.ofBits .f32 0x3F000000#32
def len : EReal := Ideal.ofBits .f32 0x44000000#32
def eps : EReal := Ideal.ofBits .f32 0x3727C5AC#32
def tiny : EReal := Ideal.ofBits .f32 0x2EDBE6FF#32

/-- `1/√2`. -/
def invSqrt2 : EReal := (((Real.sqrt 2)⁻¹ : ℝ) : EReal)

/-- The exact gelu. -/
def gelu (v : EReal) : EReal := half * v * (1 + Ideal.erf (v * invSqrt2))

/-- A gelu, then a batch norm that scales by `s` and shifts by `b`. -/
def act (s b v : EReal) : EReal := gelu v * s + b

/-- The mean of a series. -/
def mean (x : Fin 512 → EReal) : EReal := Ideal.div (∑ t, x t) len

/-- The deviation of a series: the root of its variance plus 1e-5. -/
def stdev (x : Fin 512 → EReal) : EReal :=
  Ideal.sqrt (Ideal.div (∑ t, (x t - mean x) * (x t - mean x)) len + eps)

/-- The normalised series, scaled by `w` and shifted by `b`. -/
def norm (x : Fin 512 → EReal) (w b : EReal) (t : Fin 512) : EReal :=
  Ideal.div (x t - mean x) (stdev x) * w + b

/-- Number `k` of window `n`, windows 8 apart; past the end stands the last number. -/
def window (y : Fin 512 → EReal) (n : Fin 64) (k : Fin 16) : EReal :=
  if h : n.val * 8 + k.val < 512 then y ⟨n.val * 8 + k.val, h⟩ else y 511

/-- The features of window `n`. -/
def patch (y : Fin 512 → EReal) (W : Fin 16 → Fin 128 → EReal) (b : Fin 128 → EReal) (n : Fin 64) (d : Fin 128) : EReal :=
  (∑ k, window y n k * W k d) + b d

/-- Entry `t` of row `n` of `h` with three zeros put before it and four after it. -/
def padded (h : Fin 64 → Fin 128 → EReal) (n : Fin 64) (t : ℕ) : EReal :=
  if h₁ : t < 131 then if h₀ : t < 3 then 0 else h n ⟨t - 3, by omega⟩ else 0

/-- The convolution along the features, a filter of 8 taps for each channel. -/
def conv (h : Fin 64 → Fin 128 → EReal) (w : Fin 64 → Fin 8 → EReal) (b : Fin 64 → EReal) (n : Fin 64) (d : Fin 128) : EReal :=
  (∑ k : Fin 8, padded h n (k.val + d.val) * w n k) + b n

/-- The convolution across the channels. -/
def point (h : Fin 64 → Fin 128 → EReal) (W : Fin 64 → Fin 64 → EReal) (b : Fin 64 → EReal) (o : Fin 64) (d : Fin 128) : EReal :=
  (∑ i, W o i * h i d) + b o

/-- A linear map of the 64 by 128 features. -/
def linear {q : ℕ} (h : Fin 64 → Fin 128 → EReal) (W : Fin 64 → Fin 128 → Fin q → EReal) (b : Fin q → EReal) (p : Fin q) : EReal :=
  b p + ∑ n, ∑ d, h n d * W n d p

/-- The network's parameters. -/
structure Params where
  wp : Fin 16 → Fin 128 → EReal
  wpb : Fin 128 → EReal
  h0 : Fin 64 → Fin 128 → Fin 96 → EReal
  h0b : Fin 96 → EReal
  h1a : Fin 64 → Fin 128 → Fin 192 → EReal
  h1ab : Fin 192 → EReal
  h1b : Fin 192 → Fin 96 → EReal
  h1bb : Fin 96 → EReal
  dw : Fin 2 → Fin 64 → Fin 8 → EReal
  dwb : Fin 2 → Fin 64 → EReal
  s1 : Fin 2 → Fin 64 → EReal
  b1 : Fin 2 → Fin 64 → EReal
  pw : Fin 2 → Fin 64 → Fin 64 → EReal
  pwb : Fin 2 → Fin 64 → EReal
  s2 : Fin 2 → Fin 64 → EReal
  b2 : Fin 2 → Fin 64 → EReal

/-- A block's first half: the input plus the activated convolution of it. -/
def mixed (P : Params) (l : Fin 2) (h : Fin 64 → Fin 128 → EReal) (n : Fin 64) (d : Fin 128) : EReal :=
  h n d + act (P.s1 l n) (P.b1 l n) (conv h (P.dw l) (P.dwb l) n d)

/-- A whole block: the activated combination of the channels of the first half. -/
def block (P : Params) (l : Fin 2) (h : Fin 64 → Fin 128 → EReal) (o : Fin 64) (d : Fin 128) : EReal :=
  act (P.s2 l o) (P.b2 l o) (point (mixed P l h) (P.pw l) (P.pwb l) o d)

/-- The second head: two linear maps with a gelu between them. -/
def head (P : Params) (h : Fin 64 → Fin 128 → EReal) (p : Fin 96) : EReal :=
  (∑ q, gelu (linear h P.h1a P.h1ab q) * P.h1b q p) + P.h1bb p

/-- The features of a normalised series. -/
def feat (P : Params) (y : Fin 512 → EReal) : Fin 64 → Fin 128 → EReal := patch y P.wp P.wpb

/-- What the network predicts from a normalised series: the sum of its two heads. -/
def predict (P : Params) (y : Fin 512 → EReal) (p : Fin 96) : EReal :=
  linear (feat P y) P.h0 P.h0b p + head P (block P 1 (block P 0 (feat P y))) p

/-- The prediction for a series, the normalisation undone. -/
def forecast (P : Params) (x : Fin 512 → EReal) (w b : EReal) (p : Fin 96) : EReal :=
  Ideal.div (predict P (norm x w b) p - b) (w + tiny) * stdev x + mean x

/-- A sum over 64 groups is the sum of four sums over 16 groups each. -/
theorem sum_quarters (f : Fin 64 → EReal) :
    ∑ n, f n = (∑ a : Fin 16, f ⟨0 + a, by omega⟩) + (∑ a : Fin 16, f ⟨16 + a, by omega⟩)
      + (∑ a : Fin 16, f ⟨32 + a, by omega⟩) + ∑ a : Fin 16, f ⟨48 + a, by omega⟩ := by
  rw [Fin.sum_univ_tiles 4 16 rfl f, Fin.sum_univ_four]
  rfl

/-- A sum over 16 numbers is the sum over the first eight plus the sum over the last eight. -/
theorem sum_halves (f : Fin 16 → EReal) :
    ∑ k, f k = (∑ a : Fin 8, f ⟨a, by omega⟩) + ∑ a : Fin 8, f ⟨8 + a, by omega⟩ := by
  rw [Fin.sum_univ_tiles 2 8 rfl f, Fin.sum_univ_two]
  refine congrArg₂ (· + ·) (Finset.sum_congr rfl fun a _ => congrArg f (Fin.ext (by simp))) (Finset.sum_congr rfl fun a _ => congrArg f (Fin.ext (by simp)))

end Cert.Spec
end
-- ==== Proof.Args.lean ====
module

public import proofs.«01_k».proof.Proof.Spec

/-! # The network's parameters and its result, in terms of the arguments

Both programs take the same arrays. A linear map's weights are stored with its outputs first; the 64 by 128 features
are numbered feature by feature within a window. -/

@[expose] public section
noncomputable section

namespace Cert.Spec
open Idealize.ShloMosaic

/-- The f32 number `1/√(1 + 1e-5)`, the factor of every batch norm. -/
def bnScale : EReal := Ideal.ofBits .f32 0x3F7FFFAC#32

/-- The parameters that the weight arrays hold. -/
def netParams (wp : FVec Ideal ⟨2, ![128, 16]⟩ .f32) (wpb : FVec Ideal ⟨1, ![128]⟩ .f32)
    (h0 : FVec Ideal ⟨2, ![96, 8192]⟩ .f32) (h0b : FVec Ideal ⟨1, ![96]⟩ .f32)
    (h1a : FVec Ideal ⟨2, ![192, 8192]⟩ .f32) (h1ab : FVec Ideal ⟨1, ![192]⟩ .f32)
    (h1b : FVec Ideal ⟨2, ![96, 192]⟩ .f32) (h1bb : FVec Ideal ⟨1, ![96]⟩ .f32)
    (dw : FVec Ideal ⟨4, ![2, 64, 1, 8]⟩ .f32) (dwb bn1w bn1b : FVec Ideal ⟨2, ![2, 64]⟩ .f32)
    (pw : FVec Ideal ⟨4, ![2, 64, 64, 1]⟩ .f32) (pwb bn2w bn2b : FVec Ideal ⟨2, ![2, 64]⟩ .f32) : Params where
  wp k d := wp (ix2 d k)
  wpb d := wpb (ix1 d)
  h0 n d p := h0 (ix2 p (⟨n * 128 + d, by omega⟩ : Fin 8192))
  h0b p := h0b (ix1 p)
  h1a n d q := h1a (ix2 q (⟨n * 128 + d, by omega⟩ : Fin 8192))
  h1ab q := h1ab (ix1 q)
  h1b q p := h1b (ix2 p q)
  h1bb p := h1bb (ix1 p)
  dw l n k := dw (ix4 l n 0 k)
  dwb l n := dwb (ix2 l n)
  s1 l n := bn1w (ix2 l n) * bnScale
  b1 l n := bn1b (ix2 l n)
  pw l o i := pw (ix4 l o i 0)
  pwb l n := pwb (ix2 l n)
  s2 l n := bn2w (ix2 l n) * bnScale
  b2 l n := bn2b (ix2 l n)

/-- One channel of one batch entry, as a series. -/
def channel (x : FVec Ideal ⟨3, ![256, 512, 21]⟩ .f32) (b : Fin 256) (c : Fin 21) (t : Fin 512) : EReal := x (ix3 b t c)

end Cert.Spec
end
-- ==== Proof.KernelInputs.lean ====
module

public import proofs.«01_k».proof.Proof.KernelIdealRun
public import proofs.«01_k».proof.Proof.Args
public import Idealize.ShloMosaic.Lib.StableHlo.ReadAt

/-! # What the operations before the expert network region hand to it

The region reads rearranged arguments: a series a row, each weight array with its inputs first, each convolution's batch
norm weight already times its constant. Every array is read at an index as an element of an argument. -/

@[expose] public section
set_option maxRecDepth 16384
set_option maxHeartbeats 1600000
noncomputable section

namespace Cert.KernelInputs
open Idealize.ShloMosaic Idealize.ShloMosaic.TcCoe Idealize.SL.Sem
open Cert.KernelIdeal Cert.KernelIdeal.Gen Cert.KernelIdeal.Run Cert.Spec
variable (m : (ℓ : Loc nD τ sig) → Buf (Elt Ideal) ℓ) (ρ : Dev nD → PrngReg) (c : Dev nD)

/-- An argument array, at its literal type. -/
abbrev arg (b : Ref sig .tc) : Buf (Elt Ideal) ((c : Thread nD τ).loc b) := m ((c : Thread nD τ).loc b)

/-- The parameters that the argument arrays hold. -/
def argParams : Params :=
  netParams (arg m c main_arg7) (arg m c main_arg8) (arg m c main_arg9) (arg m c main_arg10) (arg m c main_arg11) (arg m c main_arg12)
    (arg m c main_arg13) (arg m c main_arg14) (arg m c main_arg15) (arg m c main_arg16) (arg m c main_arg17) (arg m c main_arg18)
    (arg m c main_arg19) (arg m c main_arg20) (arg m c main_arg21) (arg m c main_arg22)

/-- Row `r` of the series is channel `r % 21` of batch entry `r / 21`. -/
theorem x_at (r : Fin 5376) (t : Fin 512) :
    (V1 m ρ c main_call0_v1 : FVec Ideal S5376x512 .f32) (ix2 r t)
      = channel (arg m c main_arg0) ⟨r / 21, by omega⟩ ⟨r % 21, by omega⟩ t := by
  unfold V1 W1
  after_reads_at
  rfl

/-- The scale that goes with row `r`. -/
theorem w_at (r : Fin 5376) :
    (V1 m ρ c main_call0_v5 : FVec Ideal S5376x1 .f32) (ix2 r 0) = (arg m c main_arg1 : FVec Ideal S21 .f32) (ix1 (⟨r % 21, by omega⟩ : Fin 21)) := by
  unfold V1 W1
  after_reads_at

/-- The shift that goes with row `r`. -/
theorem b_at (r : Fin 5376) :
    (V1 m ρ c main_call0_v9 : FVec Ideal S5376x1 .f32) (ix2 r 0) = (arg m c main_arg2 : FVec Ideal S21 .f32) (ix1 (⟨r % 21, by omega⟩ : Fin 21)) := by
  unfold V1 W1
  after_reads_at

/-- The window map's weights. -/
theorem wp_at (k : Fin 16) (d : Fin 128) : (V1 m ρ c main_call0_v11 : FVec Ideal S16x128 .bf16) (ix2 k d) = (argParams m c).wp k d := by
  unfold V1 W1
  after_reads_at
  rfl

theorem wpb_at (d : Fin 128) : (V1 m ρ c main_call0_v12 : FVec Ideal S1x128 .f32) (ix2 0 d) = (argParams m c).wpb d := by
  unfold V1 W1
  after_reads_at
  rfl

/-- The first head's weights. -/
theorem h0_at (n : Fin 64) (d : Fin 128) (p : Fin 96) :
    (V1 m ρ c main_call0_v15 : FVec Ideal S64x128x96 .bf16) (ix3 n d p) = (argParams m c).h0 n d p := by
  unfold V1 W1
  after_reads_at
  rfl

theorem h0b_at (p : Fin 96) : (V1 m ρ c main_call0_v16 : FVec Ideal S1x96 .f32) (ix2 0 p) = (argParams m c).h0b p := by
  unfold V1 W1
  after_reads_at
  rfl

/-- The second head's weights. -/
theorem h1a_at (n : Fin 64) (d : Fin 128) (q : Fin 192) :
    (V1 m ρ c main_call0_v19 : FVec Ideal S64x128x192 .bf16) (ix3 n d q) = (argParams m c).h1a n d q := by
  unfold V1 W1
  after_reads_at
  rfl

theorem h1ab_at (q : Fin 192) : (V1 m ρ c main_call0_v20 : FVec Ideal S1x192 .f32) (ix2 0 q) = (argParams m c).h1ab q := by
  unfold V1 W1
  after_reads_at
  rfl

theorem h1b_at (q : Fin 192) (p : Fin 96) : (V1 m ρ c main_call0_v22 : FVec Ideal S192x96 .bf16) (ix2 q p) = (argParams m c).h1b q p := by
  unfold V1 W1
  after_reads_at
  rfl

theorem h1bb_at (p : Fin 96) : (V1 m ρ c main_call0_v23 : FVec Ideal S1x96 .f32) (ix2 0 p) = (argParams m c).h1bb p := by
  unfold V1 W1
  after_reads_at
  rfl

/-- The filters of the convolutions along the features. -/
theorem dw_at (l : Fin 2) (n : Fin 64) (k : Fin 8) : (V1 m ρ c main_call0_v24 : FVec Ideal S2x64x8 .f32) (ix3 l n k) = (argParams m c).dw l n k := by
  unfold V1 W1
  after_reads_at
  rfl

/-- The batch norms' scales, the constant folded in. -/
theorem s1_at (l : Fin 2) (n : Fin 64) : (V1 m ρ c main_call0_v26 : FVec Ideal S2x64 .f32) (ix2 l n) = (argParams m c).s1 l n := by
  unfold V1 W1
  after_reads_at
  rfl

theorem s2_at (l : Fin 2) (n : Fin 64) : (V1 m ρ c main_call0_v28 : FVec Ideal S2x64 .f32) (ix2 l n) = (argParams m c).s2 l n := by
  unfold V1 W1
  after_reads_at
  rfl

/-- The weights across the channels: one array for each block. -/
theorem pw0_at (o i : Fin 64) : (V1 m ρ c main_call0_v32 : FVec Ideal S64x64 .bf16) (ix2 o i) = (argParams m c).pw 0 o i := by
  unfold V1 W1
  after_reads_at
  rfl

theorem pw1_at (o i : Fin 64) : (V1 m ρ c main_call0_v34 : FVec Ideal S64x64 .bf16) (ix2 o i) = (argParams m c).pw 1 o i := by
  unfold V1 W1
  after_reads_at
  rfl

/-- An argument that the region reads itself. -/
theorem arg_at (a : Ref sig .tc) (h : a ∈ argRefs) : V1 m ρ c a = arg m c a := W1_args m ρ c a h

end Cert.KernelInputs
end
-- ==== Proof.KernelStages.lean ====
module

public import proofs.«01_k».proof.Proof.Gen.KernelIdeal.Skeleton
public import proofs.«01_k».proof.Proof.Spec

/-! # What each stage of the expert network region computes

Every stage is read at one series `r` of a tile of 96. The stages are the functions of `Spec` on that series. -/

@[expose] public section
set_option maxRecDepth 16384
set_option maxHeartbeats 1600000
noncomputable section

namespace Cert.KernelStages
open Idealize.ShloMosaic Idealize.SL.Sem
open Cert.KernelIdeal Cert.KernelIdeal.Gen Cert.Spec

/-- The name of the constant `1/√2` denotes `1/√2`. -/
theorem named_invSqrt2 (b : BitVec 32) : (Named.named κ "inv_sqrt2" b : Ideal .f32) = invSqrt2 := rfl

/-- Series `r` of a tile. -/
def series (v0 : FVec Ideal S96x512 .f32) (r : Fin 96) (t : Fin 512) : EReal := v0 (ix2 r t)

/-- The tile's means. -/
theorem mean_at (v0 : FVec Ideal S96x512 .f32) (r : Fin 96) : k0_pay3 (F := Ideal) v0 (ix2 r 0) = mean (series v0 r) := by
  pointwise [k0_pay3, k0_pay2]
  rfl

/-- The tile's deviations. -/
theorem stdev_at (v0 : FVec Ideal S96x512 .f32) (r : Fin 96) : k0_pay5 (F := Ideal) v0 (ix2 r 0) = stdev (series v0 r) := by
  pointwise [k0_pay5, k0_pay4, k0_pay3, k0_pay2]
  rfl

/-- The windows of the normalised series, mapped to their features. -/
theorem feat_at (v0 : FVec Ideal S96x512 .f32) (v16 v18 : FVec Ideal S96x1 .f32) (v35 : FVec Ideal S16x128 .bf16)
    (v38 : FVec Ideal S1x128 .f32) (r : Fin 96) (n : Fin 64) (d : Fin 128) :
    k0_pay8 (F := Ideal) v0 v16 v18 v35 v38 (ix3 r n d)
      = patch (norm (series v0 r) (v16 (ix2 r 0)) (v18 (ix2 r 0))) (fun k d => v35 (ix2 k d)) (fun d => v38 (ix2 0 d)) n d := by
  have hc : ∀ t, k0_pay4 (F := Ideal) v0 (ix2 r t) = series v0 r t - mean (series v0 r) := fun t => by
    pointwise [k0_pay4, k0_pay3, k0_pay2]
    rfl
  pointwise [k0_pay8, k0_pay7, k0_pay6]
  rw [stdev_at, patch, sum_halves]
  refine congrArg₂ (· + ·) (congrArg₂ (· + ·) (Finset.sum_congr rfl fun k _ => ?_) (Finset.sum_congr rfl fun k _ => ?_)) rfl
  · simp only [hc]
    rfl
  · simp only [hc, window]
    have e : (1 + n.val) * 8 + k.val = n.val * 8 + (8 + k.val) := by omega
    simp only [e]
    rfl

/-- The first head: a linear map of the features, its weights read in four groups of 16 rows. -/
theorem linear96_at (v42 : FVec Ideal S96x64x128 .f32) (v43 : FVec Ideal S1x96 .f32) (v47 v54 v60 v66 : FVec Ideal S16x128x96 .bf16)
    (W : Fin 64 → Fin 128 → Fin 96 → EReal)
    (h0 : ∀ a d p, v47 (ix3 a d p) = W ⟨0 + a, by omega⟩ d p) (h1 : ∀ a d p, v54 (ix3 a d p) = W ⟨16 + a, by omega⟩ d p)
    (h2 : ∀ a d p, v60 (ix3 a d p) = W ⟨32 + a, by omega⟩ d p) (h3 : ∀ a d p, v66 (ix3 a d p) = W ⟨48 + a, by omega⟩ d p)
    (r p : Fin 96) :
    k0_pay9 (F := Ideal) v42 v43 v47 v54 v60 v66 (ix2 r p) = linear (fun n d => v42 (ix3 r n d)) W (fun p => v43 (ix2 0 p)) p := by
  pointwise [k0_pay9]
  rw [linear, sum_quarters]
  simp only [h0, h1, h2, h3, add_assoc, zero_add]

/-- The padded features of the first block. -/
theorem padded0_at (v42 : FVec Ideal S96x64x128 .f32) (r : Fin 96) (n : Fin 64) (t : Fin 135) :
    k0_pay10 (F := Ideal) v42 (ix3 r n t) = padded (fun n d => v42 (ix3 r n d)) n t := by
  pointwise [k0_pay10]
  rw [padded]
  split_ifs <;> first | rfl | simp

/-- The first block up to the combination of the channels: the features plus the activated convolution, then the sum over
    the channels, its bias still to be added. -/
theorem mixed0_at (v42 : FVec Ideal S96x64x128 .f32) (v77 v83 v90 v97 v104 v111 v118 v125 : FVec Ideal S1x64x1 .f32)
    (v131 v144 v149 : FVec Ideal S1x64 .f32) (v155 : FVec Ideal S64x64 .bf16) (w : Fin 64 → Fin 8 → EReal)
    (h0 : ∀ n, v77 (ix3 0 n 0) = w n 0) (h1 : ∀ n, v83 (ix3 0 n 0) = w n 1) (h2 : ∀ n, v90 (ix3 0 n 0) = w n 2)
    (h3 : ∀ n, v97 (ix3 0 n 0) = w n 3) (h4 : ∀ n, v104 (ix3 0 n 0) = w n 4) (h5 : ∀ n, v111 (ix3 0 n 0) = w n 5)
    (h6 : ∀ n, v118 (ix3 0 n 0) = w n 6) (h7 : ∀ n, v125 (ix3 0 n 0) = w n 7) (r : Fin 96) (o : Fin 64) (d : Fin 128) :
    k0_pay14 (F := Ideal) v42 (k0_pay10 v42) (k0_pay12 (k0_pay10 v42) (k0_pay11 v42) v77 v83 v90 v97 v104 v111) (k0_pay13 (k0_pay10 v42))
        v118 v125 v131 v144 v149 v155 (ix3 o r d)
      = ∑ i, v155 (ix2 o i) * (v42 (ix3 r i d) + act (v144 (ix2 0 i)) (v149 (ix2 0 i))
          (conv (fun n d => v42 (ix3 r n d)) w (fun n => v131 (ix2 0 n)) i d)) := by
  pointwise [k0_pay14, k0_pay13, k0_pay12, k0_pay11]
  simp only [padded0_at, h0, h1, h2, h3, h4, h5, h6, h7, conv, Fin.sum_univ_eight, named_invSqrt2, act, gelu]
  refine Finset.sum_congr rfl fun i _ => ?_
  simp only [Fin.val_zero, zero_add]
  rfl

/-- The first block's result: the bias added, the gelu, and the batch norm. -/
theorem block0_at (v158 : FVec Ideal S64x96x128 .f32) (v159 v172 v177 : FVec Ideal S1x64 .f32) (r : Fin 96) (o : Fin 64) (d : Fin 128) :
    k0_pay16 (F := Ideal) v158 (k0_pay15 v159) v172 v177 (ix3 o r d)
      = act (v172 (ix2 0 o)) (v177 (ix2 0 o)) (v158 (ix3 o r d) + v159 (ix2 0 o)) := by
  pointwise [k0_pay16, k0_pay15]
  rfl

/-- The padded features of the second block. -/
theorem padded1_at (v158 : FVec Ideal S64x96x128 .f32) (v161 : FVec Ideal S64x1x1 .f32) (v172 v177 : FVec Ideal S1x64 .f32)
    (r : Fin 96) (n : Fin 64) (t : Fin 135) :
    k0_pay17 (F := Ideal) v158 v161 v172 v177 (ix3 n r t) = padded (fun n d => k0_pay16 (F := Ideal) v158 v161 v172 v177 (ix3 n r d)) n t := by
  pointwise [k0_pay17]
  rw [padded]
  split_ifs <;> first | rfl | simp

/-- The second block's convolution. -/
theorem conv1_at (v158 : FVec Ideal S64x96x128 .f32) (v161 : FVec Ideal S64x1x1 .f32) (v172 v177 : FVec Ideal S1x64 .f32)
    (v188 v194 v201 v208 v215 v222 v229 v236 : FVec Ideal S1x64x1 .f32) (v242 : FVec Ideal S1x64 .f32) (w : Fin 64 → Fin 8 → EReal)
    (h0 : ∀ n, v188 (ix3 0 n 0) = w n 0) (h1 : ∀ n, v194 (ix3 0 n 0) = w n 1) (h2 : ∀ n, v201 (ix3 0 n 0) = w n 2)
    (h3 : ∀ n, v208 (ix3 0 n 0) = w n 3) (h4 : ∀ n, v215 (ix3 0 n 0) = w n 4) (h5 : ∀ n, v222 (ix3 0 n 0) = w n 5)
    (h6 : ∀ n, v229 (ix3 0 n 0) = w n 6) (h7 : ∀ n, v236 (ix3 0 n 0) = w n 7) (r : Fin 96) (n : Fin 64) (d : Fin 128) :
    k0_pay21 (F := Ideal) (k0_pay17 v158 v161 v172 v177) (k0_pay18 v158 v161 v172 v177 v188 v194) (k0_pay19 v158 v161 v172 v177)
        (k0_pay20 v201) v208 v215 v222 v229 v236 v242 (ix3 n r d)
      = conv (fun n d => k0_pay16 (F := Ideal) v158 v161 v172 v177 (ix3 n r d)) w (fun n => v242 (ix2 0 n)) n d := by
  pointwise [k0_pay21, k0_pay20, k0_pay19, k0_pay18]
  simp only [padded1_at, h0, h1, h2, h3, h4, h5, h6, h7, conv, Fin.sum_univ_eight]
  simp only [Fin.val_zero, zero_add]
  rfl

/-- The second block's result, the last shift of its batch norm still to be added. -/
theorem block1_at (v181 v246 : FVec Ideal S64x96x128 .f32) (v255 v260 : FVec Ideal S1x64 .f32) (v266 : FVec Ideal S64x64 .bf16)
    (v270 v283 : FVec Ideal S1x64 .f32) (r : Fin 96) (o : Fin 64) (d : Fin 128) :
    k0_pay22 (F := Ideal) v181 v246 (Scalar.ofBits .f32 0x3F000000#32) v255 v260 v266 v270 v283 (ix3 o r d)
      = gelu ((∑ i, v266 (ix2 o i) * (v181 (ix3 i r d) + act (v255 (ix2 0 i)) (v260 (ix2 0 i)) (v246 (ix3 i r d)))) + v270 (ix2 0 o))
          * v283 (ix2 0 o) := by
  pointwise [k0_pay22]
  rfl

/-- The second head's first linear map, its weights read in four groups of 16 rows. -/
theorem linear192_at (v287 : FVec Ideal S64x96x128 .f32) (v288 : FVec Ideal S1x64 .f32) (v293 : FVec Ideal S1x192 .f32)
    (v297 v304 v310 v316 : FVec Ideal S16x128x192 .bf16) (W : Fin 64 → Fin 128 → Fin 192 → EReal)
    (h0 : ∀ a d p, v297 (ix3 a d p) = W ⟨0 + a, by omega⟩ d p) (h1 : ∀ a d p, v304 (ix3 a d p) = W ⟨16 + a, by omega⟩ d p)
    (h2 : ∀ a d p, v310 (ix3 a d p) = W ⟨32 + a, by omega⟩ d p) (h3 : ∀ a d p, v316 (ix3 a d p) = W ⟨48 + a, by omega⟩ d p)
    (r : Fin 96) (q : Fin 192) :
    k0_pay23 (F := Ideal) v287 v288 v293 v297 v304 v310 v316 (ix2 r q)
      = linear (fun n d => v287 (ix3 n r d) + v288 (ix2 0 n)) W (fun p => v293 (ix2 0 p)) q := by
  pointwise [k0_pay23]
  rw [linear, sum_quarters]
  simp only [h0, h1, h2, h3, add_assoc, zero_add]

/-- The region's result: the sum of the two heads, the normalisation undone. -/
theorem result_at (v5 v15 v17 v19 : FVec Ideal S96x1 .f32) (v70 : FVec Ideal S96x96 .f32) (v287 : FVec Ideal S64x96x128 .f32)
    (v288 : FVec Ideal S1x64 .f32) (v293 : FVec Ideal S1x192 .f32) (v297 v304 v310 v316 : FVec Ideal S16x128x192 .bf16)
    (v330 : FVec Ideal S192x96 .bf16) (v333 : FVec Ideal S1x96 .f32) (r p : Fin 96) :
    k0_pay1 (F := Ideal) v5 v15 (k0_pay6 v17) (k0_pay7 v19) v70 (k0_pay24 v287 v288 v293 v297 v304 v310 v316)
        (k0_pay25 v287 v288 v293 v297 v304 v310 v316) v330 v333 (ix2 r p)
      = Ideal.div (v70 (ix2 r p) + ((∑ q, gelu (k0_pay23 (F := Ideal) v287 v288 v293 v297 v304 v310 v316 (ix2 r q)) * v330 (ix2 q p)) + v333 (ix2 0 p))
          - v19 (ix2 r 0)) (v17 (ix2 r 0) + tiny) * v15 (ix2 r 0) + v5 (ix2 r 0) := by
  pointwise [k0_pay1, k0_pay6, k0_pay7, k0_pay24, k0_pay25]
  rfl

end Cert.KernelStages
end
-- ==== Proof.KernelBlock.lean ====
module

public import proofs.«01_k».proof.Proof.KernelIdealRegion0
public import proofs.«01_k».proof.Proof.KernelStages
public import Idealize.ShloMosaic.Lib.Pipeline.ValueKit

/-! # What the expert network region leaves in one block

A block is 96 series with their 96 predictions each: every series' predictions are its `forecast`. -/

@[expose] public section
set_option maxRecDepth 16384
set_option maxHeartbeats 1600000
noncomputable section

namespace Cert.KernelBlock
open Idealize.ShloMosaic Idealize.SL.Sem
open Cert.KernelIdeal Cert.KernelIdeal.Gen Cert.KernelIdeal.Run Cert.Spec Cert.KernelStages

/-- The network's parameters as the region's blocks hold them. -/
def params (x3 : FVec Ideal S16x128 .bf16) (x4 : FVec Ideal S1x128 .f32) (x5 : FVec Ideal S64x128x96 .bf16) (x6 : FVec Ideal S1x96 .f32)
    (x7 : FVec Ideal S64x128x192 .bf16) (x8 : FVec Ideal S1x192 .f32) (x9 : FVec Ideal S192x96 .bf16) (x10 : FVec Ideal S1x96 .f32)
    (x11 : FVec Ideal S2x64x8 .f32) (x12 x13 x14 : FVec Ideal S2x64 .f32) (x15 x16 : FVec Ideal S64x64 .bf16)
    (x17 x18 x19 : FVec Ideal S2x64 .f32) : Params where
  wp k d := x3 (ix2 k d)
  wpb d := x4 (ix2 0 d)
  h0 n d p := x5 (ix3 n d p)
  h0b p := x6 (ix2 0 p)
  h1a n d q := x7 (ix3 n d q)
  h1ab q := x8 (ix2 0 q)
  h1b q p := x9 (ix2 q p)
  h1bb p := x10 (ix2 0 p)
  dw l n k := x11 (ix3 l n k)
  dwb l n := x12 (ix2 l n)
  s1 l n := x13 (ix2 l n)
  b1 l n := x14 (ix2 l n)
  pw l o i := if l = 0 then x15 (ix2 o i) else x16 (ix2 o i)
  pwb l n := x17 (ix2 l n)
  s2 l n := x18 (ix2 l n)
  b2 l n := x19 (ix2 l n)

variable (x0 : FVec Ideal S96x512 .f32) (x1 x2 : FVec Ideal S96x1 .f32)
    (x3 : FVec Ideal S16x128 .bf16) (x4 : FVec Ideal S1x128 .f32) (x5 : FVec Ideal S64x128x96 .bf16) (x6 : FVec Ideal S1x96 .f32)
    (x7 : FVec Ideal S64x128x192 .bf16) (x8 : FVec Ideal S1x192 .f32) (x9 : FVec Ideal S192x96 .bf16) (x10 : FVec Ideal S1x96 .f32)
    (x11 : FVec Ideal S2x64x8 .f32) (x12 x13 x14 : FVec Ideal S2x64 .f32) (x15 x16 : FVec Ideal S64x64 .bf16)
    (x17 x18 x19 : FVec Ideal S2x64 .f32)

/-- The features the region works out for a series. -/
theorem feat_blk (r : Fin 96) (n : Fin 64) (d : Fin 128) :
    k0_pay26 (F := Ideal) x0 x1 x2 x3 x4 x5 x6 x7 x8 x9 x10 x11 x12 x13 x14 x15 x16 x17 x18 x19 (ix3 r n d) = feat (params x3 x4 x5 x6 x7 x8 x9 x10 x11 x12 x13 x14 x15 x16 x17 x18 x19) (norm (series x0 r) (x1 (ix2 r 0)) (x2 (ix2 r 0))) n d := by
  unfold k0_pay26
  frame_out
  exact feat_at x0 x1 x2 x3 x4 r n d

/-- The first block's combination of the channels. -/
theorem point0_blk (r : Fin 96) (o : Fin 64) (d : Fin 128) :
    k0_pay28 (F := Ideal) x0 x1 x2 x3 x4 x5 x6 x7 x8 x9 x10 x11 x12 x13 x14 x15 x16 x17 x18 x19 (ix3 o r d) = ∑ i, (params x3 x4 x5 x6 x7 x8 x9 x10 x11 x12 x13 x14 x15 x16 x17 x18 x19).pw 0 o i * mixed (params x3 x4 x5 x6 x7 x8 x9 x10 x11 x12 x13 x14 x15 x16 x17 x18 x19) 0 (feat (params x3 x4 x5 x6 x7 x8 x9 x10 x11 x12 x13 x14 x15 x16 x17 x18 x19) (norm (series x0 r) (x1 (ix2 r 0)) (x2 (ix2 r 0)))) i d := by
  unfold k0_pay28 k0_pay27
  refine (mixed0_at _ _ _ _ _ _ _ _ _ _ _ _ _ ((params x3 x4 x5 x6 x7 x8 x9 x10 x11 x12 x13 x14 x15 x16 x17 x18 x19).dw 0) (fun n => ?_) (fun n => ?_) (fun n => ?_) (fun n => ?_) (fun n => ?_)
    (fun n => ?_) (fun n => ?_) (fun n => ?_) r o d).trans ?_
  iterate 8 (pointwise []; rfl)
  pointwise []
  simp only [feat_blk]
  rfl

/-- The first block's result. -/
theorem block0_blk (r : Fin 96) (o : Fin 64) (d : Fin 128) :
    k0_pay16 (F := Ideal) (k0_pay28 x0 x1 x2 x3 x4 x5 x6 x7 x8 x9 x10 x11 x12 x13 x14 x15 x16 x17 x18 x19) (k0_pay29 x0 x1 x2 x3 x4 x5 x6 x7 x8 x9 x10 x11 x12 x13 x14 x15 x16 x17 x18 x19) (View.ld x18 r0_17) (View.ld x19 r0_17) (ix3 o r d) = block (params x3 x4 x5 x6 x7 x8 x9 x10 x11 x12 x13 x14 x15 x16 x17 x18 x19) 0 (feat (params x3 x4 x5 x6 x7 x8 x9 x10 x11 x12 x13 x14 x15 x16 x17 x18 x19) (norm (series x0 r) (x1 (ix2 r 0)) (x2 (ix2 r 0)))) o d := by
  unfold k0_pay29
  rw [block0_at, point0_blk]
  pointwise []
  rfl

/-- The second block's result, the last shift of its batch norm still to be added. -/
theorem block1_blk (r : Fin 96) (o : Fin 64) (d : Fin 128) :
    k0_pay30 (F := Ideal) x0 x1 x2 x3 x4 x5 x6 x7 x8 x9 x10 x11 x12 x13 x14 x15 x16 x17 x18 x19 (ix3 o r d) + x19 (ix2 1 o) = block (params x3 x4 x5 x6 x7 x8 x9 x10 x11 x12 x13 x14 x15 x16 x17 x18 x19) 1 (block (params x3 x4 x5 x6 x7 x8 x9 x10 x11 x12 x13 x14 x15 x16 x17 x18 x19) 0 (feat (params x3 x4 x5 x6 x7 x8 x9 x10 x11 x12 x13 x14 x15 x16 x17 x18 x19) (norm (series x0 r) (x1 (ix2 r 0)) (x2 (ix2 r 0))))) o d := by
  unfold k0_pay30
  rw [block1_at]
  pointwise []
  rw [block, act, point]
  refine congrArg₂ (· + ·) (congrArg₂ (· * ·) (congrArg gelu (congrArg₂ (· + ·) (Finset.sum_congr rfl fun i _ => ?_) rfl)) rfl) rfl
  rw [conv1_at _ _ _ _ _ _ _ _ _ _ _ _ _ ((params x3 x4 x5 x6 x7 x8 x9 x10 x11 x12 x13 x14 x15 x16 x17 x18 x19).dw 1) (fun n => by pointwise []; rfl) (fun n => by pointwise []; rfl)
    (fun n => by pointwise []; rfl) (fun n => by pointwise []; rfl) (fun n => by pointwise []; rfl) (fun n => by pointwise []; rfl)
    (fun n => by pointwise []; rfl) (fun n => by pointwise []; rfl)]
  simp only [block0_blk]
  pointwise []
  rfl

/-- The second head's hidden layer, before its gelu. -/
theorem hidden_blk (r : Fin 96) (q : Fin 192) :
    k0_pay23 (F := Ideal) (k0_pay30 x0 x1 x2 x3 x4 x5 x6 x7 x8 x9 x10 x11 x12 x13 x14 x15 x16 x17 x18 x19) (View.ld x19 r0_27) x8 (View.ld x7 r0_29) (View.ld x7 r0_30) (View.ld x7 r0_31) (View.ld x7 r0_32) (ix2 r q)
      = linear (block (params x3 x4 x5 x6 x7 x8 x9 x10 x11 x12 x13 x14 x15 x16 x17 x18 x19) 1 (block (params x3 x4 x5 x6 x7 x8 x9 x10 x11 x12 x13 x14 x15 x16 x17 x18 x19) 0 (feat (params x3 x4 x5 x6 x7 x8 x9 x10 x11 x12 x13 x14 x15 x16 x17 x18 x19) (norm (series x0 r) (x1 (ix2 r 0)) (x2 (ix2 r 0)))))) (params x3 x4 x5 x6 x7 x8 x9 x10 x11 x12 x13 x14 x15 x16 x17 x18 x19).h1a (params x3 x4 x5 x6 x7 x8 x9 x10 x11 x12 x13 x14 x15 x16 x17 x18 x19).h1ab q := by
  rw [linear192_at _ _ _ _ _ _ _ (params x3 x4 x5 x6 x7 x8 x9 x10 x11 x12 x13 x14 x15 x16 x17 x18 x19).h1a (fun a d p => by pointwise []; rfl) (fun a d p => by pointwise []; rfl)
    (fun a d p => by pointwise []; rfl) (fun a d p => by pointwise []; rfl)]
  pointwise []
  simp only [block1_blk]
  rfl

/-- The predictions the region leaves for a series. -/
theorem out_at (r p : Fin 96) :
    out0_20 (F := Ideal) x0 x1 x2 x3 x4 x5 x6 x7 x8 x9 x10 x11 x12 x13 x14 x15 x16 x17 x18 x19 (ix2 r p) = forecast (params x3 x4 x5 x6 x7 x8 x9 x10 x11 x12 x13 x14 x15 x16 x17 x18 x19) (series x0 r) (x1 (ix2 r 0)) (x2 (ix2 r 0)) p := by
  frame_out
  rw [result_at, mean_at, stdev_at]
  rw [linear96_at _ _ _ _ _ _ (params x3 x4 x5 x6 x7 x8 x9 x10 x11 x12 x13 x14 x15 x16 x17 x18 x19).h0 (fun a d p => by pointwise []; rfl) (fun a d p => by pointwise []; rfl)
    (fun a d p => by pointwise []; rfl) (fun a d p => by pointwise []; rfl)]
  simp only [feat_blk, hidden_blk]
  rfl

end Cert.KernelBlock
end
-- ==== Proof.KernelTiles.lean ====
module

public import proofs.«01_k».proof.Proof.KernelInputs
public import proofs.«01_k».proof.Proof.KernelBlock
public import Idealize.ShloMosaic.Lib.Pipeline.ValueKit

/-! # What one tile of the expert network region reads: 96 series with their scales and shifts, and all the parameters -/

@[expose] public section
set_option maxRecDepth 16384
set_option maxHeartbeats 1600000
noncomputable section

namespace Cert.KernelTiles
open Idealize.ShloMosaic Idealize.ShloMosaic.TcCoe Idealize.SL.Sem
open Idealize.ShloMosaic.Pipeline (Dat)
open Cert.KernelIdeal Cert.KernelIdeal.Gen Cert.KernelIdeal.Run Cert.Spec Cert.KernelInputs Cert.KernelBlock Cert.KernelStages
variable (m : (ℓ : Loc nD τ sig) → Buf (Elt Ideal) ℓ) (ρ : Dev nD → PrngReg) (c : Dev nD)

/-- Where the tiled windows' blocks lie. -/
theorem idx_row : ∀ t : Fin cfg0.N, win0_0.index t = ![t.val, 0] ∧ win0_1.index t = ![t.val, 0] ∧ win0_2.index t = ![t.val, 0]
    ∧ win0_20.index t = ![t.val, 0] := (by decide +kernel : ∀ t : Fin grid0.N, _)

/-- The other windows' blocks are their whole arrays. -/
theorem idx_whole : ∀ t : Fin cfg0.N, win0_3.index t = ![0, 0] ∧ win0_4.index t = ![0, 0] ∧ win0_5.index t = ![0, 0, 0] ∧ win0_6.index t = ![0, 0]
    ∧ win0_7.index t = ![0, 0, 0] ∧ win0_8.index t = ![0, 0] ∧ win0_9.index t = ![0, 0] ∧ win0_10.index t = ![0, 0] ∧ win0_11.index t = ![0, 0, 0]
    ∧ win0_12.index t = ![0, 0] ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] := (by decide +kernel : ∀ t : Fin grid0.N, _)

/-- There are 56 tiles. -/
theorem tile_lt (t : Fin cfg0.N) : t.val < 56 := N_0 ▸ t.isLt

/-! A block that is its whole array. -/

theorem whole3 (t : Fin cfg0.N) : iblk0 (V1 m ρ) c 3 t = V1 m ρ c main_call0_v11 := by blk_ext! [iblk0, idx_whole t]
theorem whole4 (t : Fin cfg0.N) : iblk0 (V1 m ρ) c 4 t = V1 m ρ c main_call0_v12 := by blk_ext! [iblk0, idx_whole t]
theorem whole5 (t : Fin cfg0.N) : iblk0 (V1 m ρ) c 5 t = V1 m ρ c main_call0_v15 := by blk_ext! [iblk0, idx_whole t]
theorem whole6 (t : Fin cfg0.N) : iblk0 (V1 m ρ) c 6 t = V1 m ρ c main_call0_v16 := by blk_ext! [iblk0, idx_whole t]
theorem whole7 (t : Fin cfg0.N) : iblk0 (V1 m ρ) c 7 t = V1 m ρ c main_call0_v19 := by blk_ext! [iblk0, idx_whole t]
theorem whole8 (t : Fin cfg0.N) : iblk0 (V1 m ρ) c 8 t = V1 m ρ c main_call0_v20 := by blk_ext! [iblk0, idx_whole t]
theorem whole9 (t : Fin cfg0.N) : iblk0 (V1 m ρ) c 9 t = V1 m ρ c main_call0_v22 := by blk_ext! [iblk0, idx_whole t]
theorem whole10 (t : Fin cfg0.N) : iblk0 (V1 m ρ) c 10 t = V1 m ρ c main_call0_v23 := by blk_ext! [iblk0, idx_whole t]
theorem whole11 (t : Fin cfg0.N) : iblk0 (V1 m ρ) c 11 t = V1 m ρ c main_call0_v24 := by blk_ext! [iblk0, idx_whole t]
theorem whole12 (t : Fin cfg0.N) : iblk0 (V1 m ρ) c 12 t = V1 m ρ c main_arg16 := by blk_ext! [iblk0, idx_whole t]
theorem whole13 (t : Fin cfg0.N) : iblk0 (V1 m ρ) c 13 t = V1 m ρ c main_call0_v26 := by blk_ext! [iblk0, idx_whole t]
theorem whole14 (t : Fin cfg0.N) : iblk0 (V1 m ρ) c 14 t = V1 m ρ c main_arg18 := by blk_ext! [iblk0, idx_whole t]
theorem whole15 (t : Fin cfg0.N) : iblk0 (V1 m ρ) c 15 t = V1 m ρ c main_call0_v32 := by blk_ext! [iblk0, idx_whole t]
theorem whole16 (t : Fin cfg0.N) : iblk0 (V1 m ρ) c 16 t = V1 m ρ c main_call0_v34 := by blk_ext! [iblk0, idx_whole t]
theorem whole17 (t : Fin cfg0.N) : iblk0 (V1 m ρ) c 17 t = V1 m ρ c main_arg20 := by blk_ext! [iblk0, idx_whole t]
theorem whole18 (t : Fin cfg0.N) : iblk0 (V1 m ρ) c 18 t = V1 m ρ c main_call0_v28 := by blk_ext! [iblk0, idx_whole t]
theorem whole19 (t : Fin cfg0.N) : iblk0 (V1 m ρ) c 19 t = V1 m ρ c main_arg22 := by blk_ext! [iblk0, idx_whole t]

/-- Row `r` of tile `t` is series `t * 96 + r`. -/
theorem row0 (t : Fin cfg0.N) (r : Fin 96) : series (iblk0 (V1 m ρ) c 0 t) r
   = channel (arg m c main_arg0) ⟨(t.val * 96 + r) / 21, by have := tile_lt t; omega⟩ ⟨(t.val * 96 + r) % 21, by omega⟩ := by
  funext k
  refine Eq.trans ?_ (x_at m ρ c ⟨t.val * 96 + r, by have := tile_lt t; omega⟩ k)
  unfold series
  blk_ext [iblk0, idx_row t]

/-- Its scale. -/
theorem row1 (t : Fin cfg0.N) (r : Fin 96) : (iblk0 (V1 m ρ) c 1 t : FVec Ideal S96x1 .f32) (ix2 r 0)
   = (arg m c main_arg1 : FVec Ideal S21 .f32) (ix1 (⟨(t.val * 96 + r) % 21, by omega⟩ : Fin 21)) := by
  refine Eq.trans ?_ (w_at m ρ c ⟨t.val * 96 + r, by have := tile_lt t; omega⟩)
  blk_ext [iblk0, idx_row t]

/-- Its shift. -/
theorem row2 (t : Fin cfg0.N) (r : Fin 96) : (iblk0 (V1 m ρ) c 2 t : FVec Ideal S96x1 .f32) (ix2 r 0)
   = (arg m c main_arg2 : FVec Ideal S21 .f32) (ix1 (⟨(t.val * 96 + r) % 21, by omega⟩ : Fin 21)) := by
  refine Eq.trans ?_ (b_at m ρ c ⟨t.val * 96 + r, by have := tile_lt t; omega⟩)
  blk_ext [iblk0, idx_row t]

/-- Two sets of parameters are equal when their entries are. -/
theorem params_ext {P Q : Params} (h1 : ∀ k d, P.wp k d = Q.wp k d) (h2 : ∀ d, P.wpb d = Q.wpb d) (h3 : ∀ n d p, P.h0 n d p = Q.h0 n d p)
    (h4 : ∀ p, P.h0b p = Q.h0b p) (h5 : ∀ n d q, P.h1a n d q = Q.h1a n d q) (h6 : ∀ q, P.h1ab q = Q.h1ab q) (h7 : ∀ q p, P.h1b q p = Q.h1b q p)
    (h8 : ∀ p, P.h1bb p = Q.h1bb p) (h9 : ∀ l n k, P.dw l n k = Q.dw l n k) (h10 : ∀ l n, P.dwb l n = Q.dwb l n) (h11 : ∀ l n, P.s1 l n = Q.s1 l n)
    (h12 : ∀ l n, P.b1 l n = Q.b1 l n) (h13 : ∀ l o i, P.pw l o i = Q.pw l o i) (h14 : ∀ l n, P.pwb l n = Q.pwb l n)
    (h15 : ∀ l n, P.s2 l n = Q.s2 l n) (h16 : ∀ l n, P.b2 l n = Q.b2 l n) : P = Q := by
  cases P; cases Q
  simp only [Params.mk.injEq]
  exact ⟨funext₂ h1, funext h2, funext₃ h3, funext h4, funext₃ h5, funext h6, funext₂ h7, funext h8, funext₃ h9, funext₂ h10, funext₂ h11, funext₂ h12,
    funext₃ h13, funext₂ h14, funext₂ h15, funext₂ h16⟩

/-- Every tile sees the parameters that the arguments hold. -/
theorem params_blk (t : Fin cfg0.N) : params (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) (iblk0 (V1 m ρ) c 18 t) (iblk0 (V1 m ρ) c 19 t) = argParams m c := by
  rw [whole3, whole4, whole5, whole6, whole7, whole8, whole9, whole10, whole11, whole12, whole13, whole14, whole15, whole16, whole17, whole18, whole19]
  refine params_ext (wp_at m ρ c) (wpb_at m ρ c) (h0_at m ρ c) (h0b_at m ρ c) (h1a_at m ρ c) (h1ab_at m ρ c) (h1b_at m ρ c) (h1bb_at m ρ c) (dw_at m ρ c)
    (fun l n => ?_) (s1_at m ρ c) (fun l n => ?_) (fun l o i => ?_) (fun l n => ?_) (s2_at m ρ c) (fun l n => ?_)
  · exact congrFun (arg_at m ρ c main_arg16 (by simp only [argRefs, List.mem_cons, true_or, or_true])) _
  · exact congrFun (arg_at m ρ c main_arg18 (by simp only [argRefs, List.mem_cons, true_or, or_true])) _
  · match l with
    | 0 => exact pw0_at m ρ c o i
    | 1 => exact pw1_at m ρ c o i
  · exact congrFun (arg_at m ρ c main_arg20 (by simp only [argRefs, List.mem_cons, true_or, or_true])) _
  · exact congrFun (arg_at m ρ c main_arg22 (by simp only [argRefs, List.mem_cons, true_or, or_true])) _

end Cert.KernelTiles
end
-- ==== Proof.KernelArray.lean ====
module

public import proofs.«01_k».proof.Proof.KernelTiles
public import Idealize.ShloMosaic.Lib.Pipeline.ValueKit

/-! # The expert network region's result array -/

@[expose] public section
set_option maxRecDepth 16384
set_option maxHeartbeats 1600000
noncomputable section

namespace Cert.KernelArray
open Idealize.ShloMosaic Idealize.ShloMosaic.TcCoe Idealize.SL.Sem
open Idealize.ShloMosaic.Pipeline (Dat)
open Cert.KernelTiles Cert.KernelIdeal Cert.KernelIdeal.Gen Cert.KernelIdeal.Run Cert.Spec Cert.KernelInputs Cert.KernelBlock Cert.KernelStages
variable (m : (ℓ : Loc nD τ sig) → Buf (Elt Ideal) ℓ) (ρ : Dev nD → PrngReg) (c : Dev nD)

/-- What the network predicts for every series: a row for each channel of each batch entry. -/
def rows : FVec Ideal S5376x96 .f32 := fun i =>
  forecast (argParams m c) (channel (arg m c main_arg0) ⟨(i 0 : ℕ) / 21, by have := (i 0).isLt; simp at this; omega⟩ ⟨(i 0 : ℕ) % 21, by omega⟩)
    ((arg m c main_arg1 : FVec Ideal S21 .f32) (ix1 (⟨(i 0 : ℕ) % 21, by omega⟩ : Fin 21))) ((arg m c main_arg2 : FVec Ideal S21 .f32) (ix1 (⟨(i 0 : ℕ) % 21, by omega⟩ : Fin 21))) (i 1)

/-- What a tile leaves at row `r` and column `p`. -/
theorem tile_at (t : Fin cfg0.N) (r p : Fin 96) :
    out0_20 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) (iblk0 (V1 m ρ) c 18 t) (iblk0 (V1 m ρ) c 19 t) (ix2 r p)
      = rows m c (ix2 (⟨t.val * 96 + r, by have := tile_lt t; omega⟩ : Fin 5376) p) := by
  rw [out_at, params_blk, row0, row1, row2]
  rfl

/-- The array the region leaves. -/
theorem array : (dat0 (V1 m ρ) c).arrAt 20 cfg0.N = rows m c := by
  refine (dat0 (V1 m ρ) c).arrAt_eq_of_covers 20 _ (by decide +kernel) fun t _ y => ?_
  blk_simp
  rw [after0_20]
  have hy : (y : S96x96.Idx) = ix2 (y 0 : Fin 96) (y 1 : Fin 96) := by blk_ext
  refine (congrArg _ hy).trans ((tile_at m ρ c t _ _).trans (congrArg (rows m c) ?_))
  blk_ext [idx_row t]

end Cert.KernelArray
end
-- ==== Proof.Gating.lean ====
module

public import proofs.«01_k».proof.Proof.Spec
public import Idealize.ShloMosaic.Lib.SortFacts

/-! # The gating, as plain functions on extended reals

Every batch entry has four logits, one for each expert. The two greatest are kept (of equal ones those of lower number
come first) and get the softmax of the two as their gates; the other two get gate 0. The balance loss is made from how
the gates spread over the experts. -/

@[expose] public section
noncomputable section

namespace Cert.Spec
open Idealize.ShloMosaic

/-- `i₁` and `i₂` are where the greatest and the second greatest of four stand, the first of equal ones. -/
def Top2 {α : Type} [LinearOrder α] (ℓ : Fin 4 → α) (i₁ i₂ : Fin 4) : Prop :=
  (∀ j, ℓ j ≤ ℓ i₁) ∧ (∀ j, ℓ j = ℓ i₁ → i₁ ≤ j) ∧ i₂ ≠ i₁
    ∧ (∀ j, j ≠ i₁ → ℓ j ≤ ℓ i₂) ∧ (∀ j, j ≠ i₁ → ℓ j = ℓ i₂ → i₂ ≤ j)

instance {α : Type} [LinearOrder α] (ℓ : Fin 4 → α) (i₁ i₂ : Fin 4) : Decidable (Top2 ℓ i₁ i₂) := by
  unfold Top2; infer_instance

/-- The order that sorts four numbers, the greatest first. -/
def above {α : Type} [LinearOrder α] (ℓ : Fin 4 → α) (k k' : Fin 4) : Bool := decide (ℓ k' < ℓ k)

/-- The expert of the greatest logit. -/
def first (ℓ : Fin 4 → EReal) : Fin 4 := sortedFrom (above ℓ) 0

/-- The expert of the second greatest. -/
def second (ℓ : Fin 4 → EReal) : Fin 4 := sortedFrom (above ℓ) 1

/-- Those of the four that are less than number `j`. -/
def below (ℓ : Fin 4 → EReal) (j : Fin 4) : Finset (Fin 4) := Finset.univ.filter fun k => ℓ k < ℓ j

theorem mem_below (ℓ : Fin 4 → EReal) (j k : Fin 4) : k ∈ below ℓ j ↔ ℓ k < ℓ j := by simp [below]

/-- How many of the four are less than number `j`. -/
def rank (ℓ : Fin 4 → EReal) (j : Fin 4) : Fin 4 :=
  ⟨(below ℓ j).card, Finset.card_lt_univ_of_notMem (x := j) fun h => lt_irrefl _ ((mem_below ℓ j j).mp h)⟩

/-- The ranks are ordered as the numbers are. -/
theorem rank_lt (ℓ : Fin 4 → EReal) (j k : Fin 4) : rank ℓ j < rank ℓ k ↔ ℓ j < ℓ k := by
  have mono : ∀ a b : Fin 4, ℓ a ≤ ℓ b → below ℓ a ⊆ below ℓ b := fun a b h c hc =>
    (mem_below ℓ b c).mpr (((mem_below ℓ a c).mp hc).trans_le h)
  refine ⟨fun h => ?_, fun h => ?_⟩
  · by_contra hn
    have : (below ℓ k).card ≤ (below ℓ j).card := Finset.card_le_card (mono k j (not_lt.mp hn))
    exact absurd (show (below ℓ j).card < (below ℓ k).card from h) (not_lt.mpr this)
  · show (below ℓ j).card < (below ℓ k).card
    exact Finset.card_lt_card ((Finset.ssubset_iff_of_subset (mono j k h.le)).mpr
      ⟨j, (mem_below ℓ k j).mpr h, fun hc => lt_irrefl _ ((mem_below ℓ j j).mp hc)⟩)

/-- A stable sort of four small numbers puts the two greatest first. -/
theorem top2_small : ∀ ρ : Fin 4 → Fin 4, Top2 ρ (sortedFrom (above ρ) 0) (sortedFrom (above ρ) 1) := by
  decide +kernel

/-- A stable sort of four logits puts the two greatest first. -/
theorem top2 (ℓ : Fin 4 → EReal) : Top2 ℓ (first ℓ) (second ℓ) := by
  have hle : ∀ j k, rank ℓ j ≤ rank ℓ k ↔ ℓ j ≤ ℓ k := fun j k => by rw [← not_lt, rank_lt, not_lt]
  have heq : ∀ j k, rank ℓ j = rank ℓ k ↔ ℓ j = ℓ k := fun j k => by
    rw [le_antisymm_iff, le_antisymm_iff, hle, hle]
  have hB : above ℓ = above (rank ℓ) := by
    funext k k'
    unfold above
    simp only [rank_lt]
  have h := top2_small (rank ℓ)
  unfold first second
  rw [hB]
  simpa only [Top2, hle, heq] using h

/-- The gate of expert `j`: the softmax of the two greatest logits at their places, zero elsewhere. -/
def gate (ℓ : Fin 4 → EReal) (j : Fin 4) : EReal :=
  if j = first ℓ then Ideal.div 1 (1 + Ideal.exp (ℓ (second ℓ) - ℓ (first ℓ)))
  else if j = second ℓ then Ideal.div (Ideal.exp (ℓ (second ℓ) - ℓ (first ℓ))) (1 + Ideal.exp (ℓ (second ℓ) - ℓ (first ℓ)))
  else 0

/-- The mean of four numbers. -/
def mean4 (v : Fin 4 → EReal) : EReal := Ideal.div (∑ j, v j) (Ideal.ofBits .f32 0x40800000#32)

/-- The squared coefficient of variation of four numbers, the variance with divisor 3. -/
def cv (v : Fin 4 → EReal) : EReal :=
  Ideal.div (Ideal.div (∑ j, (v j - mean4 v) * (v j - mean4 v)) (Ideal.ofBits .f32 0x40400000#32)) (mean4 v * mean4 v + tiny)

/-- An expert's importance: the sum of its gates. -/
def importance (g : Fin 256 → Fin 4 → EReal) (j : Fin 4) : EReal := ∑ r, g r j

/-- An expert's load: how many of its gates are positive. -/
def load (g : Fin 256 → Fin 4 → EReal) (j : Fin 4) : EReal := ∑ r, if 0 < g r j then 1 else 0

/-- The balance loss. -/
def loss (g : Fin 256 → Fin 4 → EReal) : EReal :=
  (cv (importance g) + cv (load g)) * Ideal.ofBits .f32 0x3C23D70A#32

end Cert.Spec
end
-- ==== Proof.KernelGating.lean ====
module

public import proofs.«01_k».proof.Proof.KernelIdealRegion1
public import proofs.«01_k».proof.Proof.Gating
public import Idealize.ShloMosaic.Lib.Pipeline.ValueKit

/-! # The kernel's gates and its balance loss -/

@[expose] public section
set_option maxRecDepth 16384
set_option maxHeartbeats 1600000
noncomputable section

namespace Cert.KernelGating
open Idealize.ShloMosaic Idealize.ShloMosaic.TcCoe Idealize.SL.Sem
open Cert.KernelIdeal Cert.KernelIdeal.Gen Cert.KernelIdeal.Run Cert.Spec

/-- The bits of minus infinity. -/
theorem neg_inf : (Ideal.ofBits FTy.f32 4286578688#32 : EReal) = ⊥ := by
  simp [Ideal.ofBits, Ideal.ieee]

/-- The maximum of four numbers, where one is known to be the greatest. -/
theorem fold_max (f : Fin 4 → EReal) (i : Fin 4) (h : ∀ j, f j ≤ f i) :
    Finset.fold max (Ideal.ofBits FTy.f32 4286578688#32) f Finset.univ = f i := by
  rw [neg_inf]
  exact le_antisymm ((Finset.fold_max_le _).mpr ⟨bot_le, fun j _ => h j⟩)
    ((Finset.le_fold_max _).mpr (Or.inr ⟨i, Finset.mem_univ i, le_rfl⟩))

/-- The least of the numbers that a flag marks, 4 standing for the others. -/
theorem fold_min : ∀ (c : Fin 4 → Bool) (i : Fin 4), c i = true → (∀ j, c j = true → i ≤ j) →
    Finset.fold IntOp.minsi (2147483647#32) (fun j : Fin 4 => if c j = true then BitVec.ofNat 32 j.val else 4#32) Finset.univ = BitVec.ofNat 32 i.val := by
  decide +kernel

/-- Comparing two of the numbers 0 to 3 as words. -/
theorem word_eq : ∀ j i : Fin 4, IntOp.cmpi CmpIPredicate.eq (BitVec.ofNat 32 j.val) (BitVec.ofNat 32 i.val) = BitVec.ofBool (decide (j = i)) := by
  decide +kernel

/-- Choosing by a flag. -/
theorem select_flag {α : Type} (c : Bool) (a b : α) : Scalar.select (BitVec.ofBool c) a b = if c = true then a else b := by
  cases c <;> rfl

/-- A flag, and not another. -/
theorem and_not (a b : Bool) : IntOp.andi (BitVec.ofBool a) (IntOp.xori (BitVec.ofBool b) 1#1) = BitVec.ofBool (a && !b) := by
  cases a <;> cases b <;> rfl

/-- The kernel's gates of a batch entry are the gates of its logits. -/
theorem gates_at (x : FVec Ideal S256x4 .f32) (r : Fin 256) (j : Fin 4) :
    k1_pay2 (F := Ideal) x (ix2 r j) = gate (fun j => x (ix2 r j)) j := by
  obtain ⟨h₁, h₂, h₃, h₄, h₅⟩ := top2 fun j => x (ix2 r j)
  unfold gate
  generalize first (fun j => x (ix2 r j)) = i₁ at *
  generalize second (fun j => x (ix2 r j)) = i₂ at *
  have hm : Finset.fold max (Ideal.ofBits FTy.f32 4286578688#32) (fun j => x (ix2 r j)) Finset.univ = x (ix2 r i₁) :=
    fold_max (fun j => x (ix2 r j)) i₁ h₁
  have hi : Finset.fold IntOp.minsi (2147483647#32) (fun j : Fin 4 => if x (ix2 r j) = x (ix2 r i₁) then BitVec.ofNat 32 j.val else 4#32) Finset.univ = BitVec.ofNat 32 i₁.val := by
    have := fold_min (fun j => decide (x (ix2 r j) = x (ix2 r i₁))) i₁ (decide_eq_true rfl) fun j hj => h₂ j (of_decide_eq_true hj)
    simpa only [decide_eq_true_eq] using this
  have hm' : Finset.fold max (Ideal.ofBits FTy.f32 4286578688#32) (fun j => if j = i₁ then Ideal.ofBits FTy.f32 4286578688#32 else x (ix2 r j)) Finset.univ = x (ix2 r i₂) := by
    refine (fold_max _ i₂ fun j => ?_).trans (if_neg h₃)
    rw [if_neg h₃, neg_inf]
    split
    · exact bot_le
    · exact h₄ j ‹_›
  have hi' : Finset.fold IntOp.minsi (2147483647#32) (fun j : Fin 4 => if (decide ((if j = i₁ then Ideal.ofBits FTy.f32 4286578688#32 else x (ix2 r j)) = x (ix2 r i₂)) && !decide (j = i₁)) = true then BitVec.ofNat 32 j.val else 4#32) Finset.univ = BitVec.ofNat 32 i₂.val := by
    refine fold_min (fun j => decide ((if j = i₁ then Ideal.ofBits FTy.f32 4286578688#32 else x (ix2 r j)) = x (ix2 r i₂)) && !decide (j = i₁)) i₂ ?_ fun j hj => ?_
    · simp [h₃]
    · simp only [Bool.and_eq_true, decide_eq_true_eq, Bool.not_eq_true', decide_eq_false_iff_not] at hj
      rw [if_neg hj.2] at hj
      exact h₅ j hj.2 hj.1
  pointwise [k1_pay2]
  simp only [hm, hi, word_eq, select_flag, decide_eq_true_eq, hm', and_not, hi']
  by_cases h : j = i₁
  · rw [if_pos h, if_pos h, if_neg (h ▸ h₃.symm), add_zero]
  · rw [if_neg h, if_neg h, zero_add]

/-- A flag as a number. -/
theorem flag_float (c : Bool) : (FloatOps.sitofp FTy.f32 (BitVec.setWidth 32 (BitVec.ofBool c)) : Ideal .f32) = if c = true then (1 : EReal) else 0 := by
  show (((BitVec.setWidth 32 (BitVec.ofBool c) : BitVec 32).toInt : ℝ) : EReal) = _
  cases c <;> simp

/-- The kernel's loss is the balance loss of the gates. -/
theorem loss_at (x : FVec Ideal S256x4 .f32) :
    k1_pay1 (F := Ideal) (k1_pay2 x) (k1_pay3 x) (Scalar.ofBits .f32 0x00000000#32) (ix2 0 0) = loss fun r => gate fun j => x (ix2 r j) := by
  pointwise [k1_pay1, k1_pay3]
  simp only [gates_at, flag_float, decide_eq_true_eq]
  rfl

/-- What the second region leaves. -/
theorem out_at (x : FVec Ideal S256x4 .f32) :
    out1_1 (F := Ideal) x (ix2 0 0) = loss fun r => gate fun j => x (ix2 r j) := by
  frame_out
  exact loss_at x

end Cert.KernelGating
end
-- ==== Proof.Logits.lean ====
module

public import proofs.«01_k».proof.Proof.Args
public import Idealize.ShloMosaic.Lib.Pointwise
public import Idealize.ShloMosaic.Lib.IdealHost

/-! # The gating logits

Every batch entry's channels are mixed into one series of 512 numbers, which four linear functions turn into logits. -/

@[expose] public section
noncomputable section

namespace Cert.Spec
open Idealize.ShloMosaic

/-- The logits of batch entry `b`. -/
def logits (x : FVec Ideal ⟨3, ![256, 512, 21]⟩ .f32) (w sh : FVec Ideal ⟨1, ![21]⟩ .f32) (sW : FVec Ideal ⟨2, ![1, 21]⟩ .f32)
    (sb : FVec Ideal ⟨1, ![1]⟩ .f32) (gW : FVec Ideal ⟨2, ![4, 512]⟩ .f32) (gb : FVec Ideal ⟨1, ![4]⟩ .f32)
    (b : Fin 256) (j : Fin 4) : EReal :=
  (∑ t, ((∑ c, norm (channel x b c) (w (ix1 c)) (sh (ix1 c)) t * sW (ix2 0 c)) + sb (ix1 0)) * gW (ix2 j t)) + gb (ix1 j)

/-- The whole number zero as a float. -/
theorem zero_float : (FloatOps.sitofp FTy.f32 0#32 : Ideal .f32) = (0 : EReal) := by
  show (((0#32 : BitVec 32).toInt : ℝ) : EReal) = 0
  simp

/-- A variance's divisor: the length, less zero. -/
theorem len_sub : (Ideal.ofBits FTy.f32 0x44000000#32 : EReal) - FloatOps.sitofp FTy.f32 0#32 = len := by
  rw [zero_float]
  exact sub_zero _

/-- The length is positive. -/
theorem len_pos : (0 : EReal) < len := by
  have : len = ((512 : ℝ) : EReal) := by simp [len, Ideal.ofBits, Ideal.ieee, -EReal.coe_mul]; norm_num
  rw [this]
  exact_mod_cast (by norm_num : (0 : ℝ) < 512)

end Cert.Spec
end
-- ==== Proof.Returns.lean ====
module

public import proofs.«01_k».proof.Proof.Gating
public import proofs.«01_k».proof.Proof.Logits

/-! # What both programs return, as functions of the arguments -/

@[expose] public section
noncomputable section

namespace Cert.Spec
open Idealize.ShloMosaic

/-- The forecasts: 96 numbers for each channel of each batch entry. -/
def forecasts (P : Params) (x : FVec Ideal ⟨3, ![256, 512, 21]⟩ .f32) (w sh : FVec Ideal ⟨1, ![21]⟩ .f32) : FVec Ideal ⟨3, ![256, 96, 21]⟩ .f32 :=
  fun i => forecast P (channel x (i 0) (i 2)) (w (ix1 (i 2 : Fin 21))) (sh (ix1 (i 2 : Fin 21))) (i 1)

/-- The balance loss of the gates of all batch entries. -/
def balance (x : FVec Ideal ⟨3, ![256, 512, 21]⟩ .f32) (w sh : FVec Ideal ⟨1, ![21]⟩ .f32) (sW : FVec Ideal ⟨2, ![1, 21]⟩ .f32)
    (sb : FVec Ideal ⟨1, ![1]⟩ .f32) (gW : FVec Ideal ⟨2, ![4, 512]⟩ .f32) (gb : FVec Ideal ⟨1, ![4]⟩ .f32) : FVec Ideal ⟨0, ![]⟩ .f32 :=
  fun _ => loss fun r => gate (logits x w sh sW sb gW gb r)

end Cert.Spec
end
-- ==== Proof.KernelResults.lean ====
module

public import proofs.«01_k».proof.Proof.KernelArray
public import proofs.«01_k».proof.Proof.KernelGating
public import proofs.«01_k».proof.Proof.Returns
public import Idealize.ShloMosaic.Lib.StableHlo.ReadAt
public import Idealize.ShloMosaic.Lib.Pipeline.ValueKit

/-! # The kernel's two results -/

@[expose] public section
set_option maxRecDepth 16384
set_option maxHeartbeats 1600000
noncomputable section

namespace Cert.KernelResults
open Idealize.ShloMosaic Idealize.ShloMosaic.TcCoe Idealize.SL.Sem
open Idealize.ShloMosaic.Pipeline (Dat)
open Cert.KernelIdeal Cert.KernelIdeal.Gen Cert.KernelIdeal.Run Cert.Spec Cert.KernelInputs Cert.KernelGating
variable (m : (ℓ : Loc nD τ sig) → Buf (Elt Ideal) ℓ) (ρ : Dev nD → PrngReg) (c : Dev nD)

/-- The logits the kernel hands to its second region. -/
theorem input_at (b : Fin 256) (j : Fin 4) :
    (W3 m ρ c (Proc.devRef .tc main_call0_v66) : FVec Ideal S256x4 .f32) (ix2 b j)
      = logits (arg m c main_arg0) (arg m c main_arg1) (arg m c main_arg2) (arg m c main_arg3) (arg m c main_arg4) (arg m c main_arg5) (arg m c main_arg6) b j := by
  unfold W3
  after_reads_at
  simp only [W2_args m ρ c main_arg0 (by decide), W2_args m ρ c main_arg1 (by decide), W2_args m ρ c main_arg2 (by decide),
    W2_args m ρ c main_arg3 (by decide), W2_args m ρ c main_arg4 (by decide), W2_args m ρ c main_arg5 (by decide),
    W2_args m ρ c main_arg6 (by decide)]
  rw [len_sub]
  simp only [if_pos len_pos]
  rfl

/-- The second region's one block is its whole input. -/
theorem whole : iblk1 (V3 m ρ) c 0 t1_0 = V3 m ρ c main_call0_v66 := by
  have h : win1_0.index t1_0 = ![0, 0] := by decide +kernel
  blk_ext! [iblk1, h]

/-- The balance loss of the arguments. -/
abbrev argBalance : FVec Ideal S_ .f32 := balance (arg m c main_arg0) (arg m c main_arg1) (arg m c main_arg2) (arg m c main_arg3) (arg m c main_arg4) (arg m c main_arg5) (arg m c main_arg6)

/-- The array the second region leaves holds the balance loss. -/
theorem array : (dat1 (V3 m ρ) c).arrAt 1 cfg1.N = ((fun _ => argBalance m c ix0) : FVec Ideal S1x1 .f32) := by
  refine (dat1 (V3 m ρ) c).arrAt_eq_of_after_last 1 t1_0 (by decide +kernel) _ fun j => ?_
  blk_simp
  rw [after1_1]
  have hj : (j : S1x1.Idx) = ix2 0 0 := by blk_ext
  refine (congrArg _ hj).trans ?_
  rw [whole, out_at]
  exact congrArg loss (funext fun r => congrArg gate (funext fun j => input_at m ρ c r j))

/-- The kernel's first result. -/
theorem result0 : W5 m ρ c (Proc.devRef .tc main_v0_0) = forecasts (argParams m c) (arg m c main_arg0) (arg m c main_arg1) (arg m c main_arg2) := by
  rw [W5_of m ρ c main_v0_0 (by decide), W4_of m ρ c main_v0_0 (by decide)]
  refine funext fun y => ?_
  obtain ⟨b, p, k, rfl⟩ : ∃ (b : Fin 256) (p : Fin 96) (k : Fin 21), y = ix3 b p k := ⟨y 0, y 1, y 2, eq_ix3 y⟩
  unfold W3
  after_reads_at
  have h : W2 m ρ c (Proc.devRef .tc main_call0_v35) = KernelArray.rows m c := (W2_arr m ρ c 20).trans (KernelArray.array m ρ c)
  rw [h]
  have hb : (⟨(b.val * 21 + k.val) / 21, by omega⟩ : Fin 256) = b := Fin.ext (by show (b.val * 21 + k.val) / 21 = b.val; omega)
  have hk : (⟨(b.val * 21 + k.val) % 21, by omega⟩ : Fin 21) = k := Fin.ext (by show (b.val * 21 + k.val) % 21 = k.val; omega)
  show forecast (argParams m c) (channel (arg m c main_arg0) ⟨(b.val * 21 + k.val) / 21, _⟩ ⟨(b.val * 21 + k.val) % 21, _⟩)
    ((arg m c main_arg1 : FVec Ideal S21 .f32) (ix1 (⟨(b.val * 21 + k.val) % 21, _⟩ : Fin 21))) ((arg m c main_arg2 : FVec Ideal S21 .f32) (ix1 (⟨(b.val * 21 + k.val) % 21, _⟩ : Fin 21))) p = _
  rw [hb, hk]
  rfl

/-- The kernel's second result. -/
theorem result1 : W5 m ρ c (Proc.devRef .tc main_v0_1) = argBalance m c := by
  refine funext fun y => ?_
  obtain rfl : y = ix0 := funext fun a => a.elim0
  unfold W5
  after_reads_at
  have h : W4 m ρ c (Proc.devRef .tc main_call0_v67) = ((fun _ => argBalance m c ix0) : FVec Ideal S1x1 .f32) := (W4_arr m ρ c 1).trans (array m ρ c)
  rw [h]

end Cert.KernelResults
end
-- ==== Proof.ReferenceSeries.lean ====
module

public import proofs.«01_k».proof.Proof.Gen.ReferenceIdeal.Run
public import proofs.«01_k».proof.Proof.Logits
public import Idealize.ShloMosaic.Lib.Pointwise
public import Idealize.ShloMosaic.Lib.IdealHost

/-! # The reference's normalised series, and its windows' features -/

@[expose] public section
set_option maxRecDepth 16384
set_option maxHeartbeats 1600000
noncomputable section

namespace Cert.ReferenceSeries
open Idealize.ShloMosaic Idealize.ShloMosaic.TcCoe Idealize.SL.Sem
open Cert.ReferenceIdeal Cert.ReferenceIdeal.Gen Cert.ReferenceIdeal.Value Cert.Spec
/-- The gather that cuts the windows. -/
abbrev windowDims := gather_S256x21x520_S64x16x1_S256x21x64x16_01_2_n_n_2_2_256211

/-- The gather reads, at window `n` and place `k`, the series at the position the index table holds, clamped to the last. -/
theorem gather_at (x : FVec Ideal S256x21x520 .f32) (idx : IVec S64x16x1 32) (b : Fin 256) (c : Fin 21) (n : Fin 64) (k : Fin 16) :
    Host.gather windowDims x idx (ix4 b c n k) = x (ix3 b c (⟨min (idx (ix3 n k 0)).toInt.toNat 519, by omega⟩ : Fin 520)) := by
  unfold Host.gather
  refine congrArg x (funext fun a => Fin.ext ?_)
  match a with
  | ⟨0, _⟩ =>
    show windowDims.start (ix4 b c n k) idx 0 + windowDims.batchCoord (ix4 b c n k) 0 + windowDims.offCoord (ix4 b c n k) 0 = b.val
    have h1 : windowDims.start (ix4 b c n k) idx 0 = 0 := by
      unfold GatherDims.start
      rw [dif_neg (by decide)]
    rw [h1, GatherDims.batchCoord_eq_zero _ _ _ List.not_mem_nil]
    simp only [Nat.zero_add]
    rfl
  | ⟨1, _⟩ =>
    show windowDims.start (ix4 b c n k) idx 1 + windowDims.batchCoord (ix4 b c n k) 1 + windowDims.offCoord (ix4 b c n k) 1 = c.val
    have h1 : windowDims.start (ix4 b c n k) idx 1 = 0 := by
      unfold GatherDims.start
      rw [dif_neg (by decide)]
    rw [h1, GatherDims.batchCoord_eq_zero _ _ _ List.not_mem_nil]
    simp only [Nat.zero_add]
    rfl
  | ⟨2, _⟩ =>
    show windowDims.start (ix4 b c n k) idx 2 + windowDims.batchCoord (ix4 b c n k) 2 + windowDims.offCoord (ix4 b c n k) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ windowDims.startIndexMap from List.mem_singleton.mpr rfl)]
    have hsi : windowDims.siIdx (ix4 b c n k) ⟨List.idxOf (2 : Fin 3) windowDims.startIndexMap, List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl

/-- Where the index table holds `8 n + k`, the gather reads that position. -/
theorem gather_word (x : FVec Ideal S256x21x520 .f32) (idx : IVec S64x16x1 32) (b : Fin 256) (c : Fin 21) (n : Fin 64) (k : Fin 16)
    (h : idx (ix3 n k 0) = BitVec.ofNat 32 (n.val * 8 + k.val)) :
    Host.gather windowDims x idx (ix4 b c n k) = x (ix3 b c (⟨n.val * 8 + k.val, by omega⟩ : Fin 520)) := by
  rw [gather_at]
  refine congrArg (fun t => x (ix3 b c t)) (Fin.ext ?_)
  show min (idx (ix3 n k 0)).toInt.toNat 519 = _
  rw [h, BitVec.toInt_eq_toNat_of_lt (by rw [BitVec.toNat_ofNat]; omega), BitVec.toNat_ofNat]
  show min _ 519 = n.val * 8 + k.val
  omega

/-- The index table's words: `8 n + k`, which is never negative. -/
theorem window_word (n : Fin 64) (k : Fin 16) :
    Scalar.select
      (IntOp.cmpi CmpIPredicate.slt (IntOp.addi (IntOp.muli (BitVec.ofNat 32 n.val) 8#32) (BitVec.ofNat 32 k.val)) 0#32)
      (IntOp.addi (IntOp.addi (IntOp.muli (BitVec.ofNat 32 n.val) 8#32) (BitVec.ofNat 32 k.val)) 520#32)
      (IntOp.addi (IntOp.muli (BitVec.ofNat 32 n.val) 8#32) (BitVec.ofNat 32 k.val)) = BitVec.ofNat 32 (n.val * 8 + k.val) := by
  revert n k
  decide +kernel

variable (V : Valuation τ sig (Elt Ideal))

/-- An argument array. -/
abbrev arg (b : Ref sig .tc) : (Proc.devRef .tc b : DevRef τ sig).ty.Contents (Elt Ideal) := V (Proc.devRef .tc b)

/-- The parameters that the argument arrays hold. -/
def argParams : Params :=
  netParams (arg V main_arg7) (arg V main_arg8) (arg V main_arg9) (arg V main_arg10) (arg V main_arg11) (arg V main_arg12)
    (arg V main_arg13) (arg V main_arg14) (arg V main_arg15) (arg V main_arg16) (arg V main_arg17) (arg V main_arg18)
    (arg V main_arg19) (arg V main_arg20) (arg V main_arg21) (arg V main_arg22)

/-- Each series' mean. -/
theorem mean_at (b : Fin 256) (c : Fin 21) :
    (res_main_v3 V : FVec Ideal S256x1x21 .f32) (ix3 b 0 c) = mean (channel (arg V main_arg0) b c) := by
  pointwise [res_main_v3]
  rfl

/-- Each series less its mean. -/
theorem centred_at (b : Fin 256) (t : Fin 512) (c : Fin 21) :
    (res_main_call0_v5 V : FVec Ideal S256x512x21 .f32) (ix3 b t c) = channel (arg V main_arg0) b c t - mean (channel (arg V main_arg0) b c) := by
  pointwise [res_main_call0_v5]
  rfl

/-- Each series' deviation. -/
theorem stdev_at (b : Fin 256) (c : Fin 21) :
    (res_main_v7 V : FVec Ideal S256x1x21 .f32) (ix3 b 0 c) = stdev (channel (arg V main_arg0) b c) := by
  pointwise [res_main_v7, res_main_call0_v8]
  rw [len_sub, if_pos len_pos]
  simp only [centred_at]
  rfl

/-- Each normalised series. -/
theorem norm_at (b : Fin 256) (t : Fin 512) (c : Fin 21) :
    (res_main_v17 V : FVec Ideal S256x512x21 .f32) (ix3 b t c) = norm (channel (arg V main_arg0) b c) ((arg V main_arg1 : FVec Ideal S21 .f32) (ix1 c)) ((arg V main_arg2 : FVec Ideal S21 .f32) (ix1 c)) t := by
  pointwise [res_main_v17]
  rw [mean_at, stdev_at]
  rfl

/-- The features of series `r` of the 256·21: window `n`, feature `d`. -/
theorem feat_at (r : Fin 5376) (n : Fin 64) (d : Fin 128) :
    (res_main_v105 V : FVec Ideal S5376x64x128 .f32) (ix3 r n d)
      = feat (argParams V) (norm (channel (arg V main_arg0) ⟨r.val / 21, by omega⟩ ⟨r.val % 21, by omega⟩)
          ((arg V main_arg1 : FVec Ideal S21 .f32) (ix1 (⟨r.val % 21, by omega⟩ : Fin 21)))
          ((arg V main_arg2 : FVec Ideal S21 .f32) (ix1 (⟨r.val % 21, by omega⟩ : Fin 21)))) n d := by
  pointwise [res_main_v105, res_main_v92, res_main_v80]
  refine congrArg₂ (· + ·) (Finset.sum_congr rfl fun k _ => ?_) rfl
  rw [gather_word _ _ _ _ _ _ (by pointwise []; exact window_word n k)]
  pointwise []
  refine congrArg₂ (· * ·) ?_ rfl
  unfold window
  split <;> exact norm_at V _ _ _

/-- The gating logits. -/
theorem logits_at (b : Fin 256) (j : Fin 4) :
    (res_main_v28 V : FVec Ideal S256x4 .f32) (ix2 b j)
      = logits (arg V main_arg0) (arg V main_arg1) (arg V main_arg2) (arg V main_arg3) (arg V main_arg4) (arg V main_arg5) (arg V main_arg6) b j := by
  pointwise [res_main_v28]
  simp only [norm_at]
  rfl

end Cert.ReferenceSeries
end
-- ==== Proof.ReferenceBlocks.lean ====
module

public import proofs.«01_k».proof.Proof.ReferenceSeries

/-! # The reference's two blocks

Series `r` of the 5376 is channel `r mod 21` of batch entry `r / 21`. Every block works on each series alone. -/

@[expose] public section
set_option maxRecDepth 16384
set_option maxHeartbeats 1600000
noncomputable section

namespace Cert.ReferenceBlocks
open Idealize.ShloMosaic Idealize.ShloMosaic.TcCoe Idealize.SL.Sem
open Cert.ReferenceIdeal Cert.ReferenceIdeal.Gen Cert.ReferenceIdeal.Value Cert.Spec Cert.ReferenceSeries
variable (V : Valuation τ sig (Elt Ideal))

/-- Dividing by the root of two is multiplying by its inverse. -/
theorem div_root (v : EReal) : Ideal.div v (id (Host.sqrt (constant (F := Ideal) S_ FTy.f32 1073741824#32)) ix0) = v * invSqrt2 := by
  have two : (Ideal.ofBits FTy.f32 1073741824#32 : EReal) = ((2 : ℝ) : EReal) := by
    simp [Ideal.ofBits, Ideal.ieee, -EReal.coe_mul]
    norm_num
  show Ideal.div v (Ideal.sqrt (Ideal.ofBits FTy.f32 1073741824#32)) = _
  rw [two, Ideal.sqrt_coe, if_neg (by norm_num), Ideal.div_coe (Real.sqrt_ne_zero'.2 two_pos), one_div]
  rfl

/-- The reference's gelu and batch norm. -/
theorem act_eq (v w b : EReal) :
    Ideal.ofBits FTy.f32 1056964608#32 * v
        * (1 + Ideal.erf (Ideal.div v (id (Host.sqrt (constant (F := Ideal) S_ FTy.f32 1073741824#32)) ix0)))
        * Ideal.ofBits FTy.f32 1065353132#32 * w + b = act (w * bnScale) b v := by
  rw [div_root, mul_assoc _ (Ideal.ofBits FTy.f32 1065353132#32) w, mul_comm (Ideal.ofBits FTy.f32 1065353132#32) w]
  rfl

/-- An array with three zeros put before every row and four after it. -/
theorem pad_at (x : FVec Ideal S5376x64x128 .f32) (r : Fin 5376) (n : Fin 64) (t : Fin 135) :
    (pad S5376x64x135 ![0, 0, 3] ![0, 0, 4] ![0, 0, 0] x (sitofp .f32 (constantI S_ 32 0#32))
        pads_S5376x64x128_S5376x64x135_000_000_340 h_S_ : FVec Ideal S5376x64x135 .f32) (ix3 r n t)
      = padded (fun n d => x (ix3 r n d)) n t := by
  unfold pad padded
  by_cases h₁ : t.val < 131
  · by_cases h₀ : t.val < 3
    · rw [dif_neg fun h => by have : 3 ≤ t.val := (h 2).1; omega, dif_pos h₁, dif_pos h₀]
      exact zero_float
    · rw [dif_pos fun a => by
        match a with
        | ⟨0, _⟩ => exact ⟨Nat.zero_le _, Nat.mod_one _, (Nat.div_one r.val).symm ▸ r.isLt⟩
        | ⟨1, _⟩ => exact ⟨Nat.zero_le _, Nat.mod_one _, (Nat.div_one n.val).symm ▸ n.isLt⟩
        | ⟨2, _⟩ => exact ⟨Nat.le_of_not_lt h₀, Nat.mod_one _, (Nat.div_one (t.val - 3)).symm ▸ (by show t.val - 3 < 128; omega)⟩,
        dif_pos h₁, dif_neg h₀]
      refine congrArg x (funext fun a => Fin.ext ?_)
      match a with
      | ⟨0, _⟩ => exact Nat.div_one r.val
      | ⟨1, _⟩ => exact Nat.div_one n.val
      | ⟨2, _⟩ => exact Nat.div_one (t.val - 3)
  · rw [dif_neg fun h => by
      have : (t.val - 3) / 1 < 128 := (h 2).2.2
      have : 3 ≤ t.val := (h 2).1
      omega, dif_neg h₁]
    exact zero_float

/-- Series `r` of the features. -/
abbrev features (r : Fin 5376) (n : Fin 64) (d : Fin 128) : EReal := (res_main_v105 V : FVec Ideal S5376x64x128 .f32) (ix3 r n d)

/-- The convolution of the first block. -/
theorem conv0_at (r : Fin 5376) (n : Fin 64) (d : Fin 128) :
    (res_main_v176 V : FVec Ideal S5376x64x128 .f32) (ix3 r n d)
      = conv (features V r) ((argParams V).dw 0) ((argParams V).dwb 0) n d := by
  have h : ∀ t : Fin 135, (res_main_v116 V : FVec Ideal S5376x64x135 .f32) (ix3 r n t) = padded (features V r) n t := pad_at _ r n
  pointwise [res_main_v176, res_main_v113]
  rw [h, h, h, h, h, h, h, h]
  simp only [conv, Fin.sum_univ_eight, Fin.val_zero, zero_add]
  rfl

/-- The first block's combination of the channels. -/
theorem point0_at (r : Fin 5376) (o : Fin 64) (d : Fin 128) :
    (res_main_v209 V : FVec Ideal S5376x64x128 .f32) (ix3 r o d)
      = point (mixed (argParams V) 0 (features V r)) ((argParams V).pw 0) ((argParams V).pwb 0) o d := by
  pointwise [res_main_v209]
  refine congrArg₂ (· + ·) (Finset.sum_congr rfl fun i _ => ?_) rfl
  rw [act_eq, conv0_at, mul_comm]
  rfl

/-- The first block. -/
theorem block0_at (r : Fin 5376) (o : Fin 64) (d : Fin 128) :
    (res_main_v231 V : FVec Ideal S5376x64x128 .f32) (ix3 r o d) = block (argParams V) 0 (features V r) o d := by
  pointwise [res_main_v231]
  rw [act_eq, point0_at]
  rfl

/-- The convolution of the second block. -/
theorem conv1_at (r : Fin 5376) (n : Fin 64) (d : Fin 128) :
    (res_main_v296 V : FVec Ideal S5376x64x128 .f32) (ix3 r n d)
      = conv (block (argParams V) 0 (features V r)) ((argParams V).dw 1) ((argParams V).dwb 1) n d := by
  have h : ∀ t : Fin 135, (res_main_v236 V : FVec Ideal S5376x64x135 .f32) (ix3 r n t) = padded (block (argParams V) 0 (features V r)) n t := fun t =>
    (pad_at _ r n t).trans (congrArg (fun f => padded f n t) (funext fun n => funext fun d => block0_at V r n d))
  pointwise [res_main_v296, res_main_v233]
  rw [h, h, h, h, h, h, h, h]
  simp only [conv, Fin.sum_univ_eight, Fin.val_zero, zero_add]
  rfl

/-- The second block's combination of the channels. -/
theorem point1_at (r : Fin 5376) (o : Fin 64) (d : Fin 128) :
    (res_main_v329 V : FVec Ideal S5376x64x128 .f32) (ix3 r o d)
      = point (mixed (argParams V) 1 (block (argParams V) 0 (features V r))) ((argParams V).pw 1) ((argParams V).pwb 1) o d := by
  pointwise [res_main_v329]
  refine congrArg₂ (· + ·) (Finset.sum_congr rfl fun i _ => ?_) rfl
  rw [act_eq, conv1_at, block0_at, mul_comm]
  rfl

/-- A linear map with its bias added last. -/
theorem linear_eq {q : ℕ} (h : Fin 64 → Fin 128 → EReal) (W : Fin 64 → Fin 128 → Fin q → EReal) (b : Fin q → EReal) (p : Fin q) :
    linear h W b p = (∑ n, ∑ d, h n d * W n d p) + b p := by
  unfold linear
  exact add_comm _ _

/-- The second block. -/
theorem block1_at (r : Fin 5376) (o : Fin 64) (d : Fin 128) :
    Ideal.ofBits FTy.f32 1056964608#32 * (res_main_v329 V : FVec Ideal S5376x64x128 .f32) (ix3 r o d)
        * (1 + Ideal.erf (Ideal.div ((res_main_v329 V : FVec Ideal S5376x64x128 .f32) (ix3 r o d)) (id (Host.sqrt (constant (F := Ideal) S_ FTy.f32 1073741824#32)) ix0)))
        * Ideal.ofBits FTy.f32 1065353132#32 * (arg V main_arg21 : FVec Ideal S2x64 .f32) (ix2 1 o) + (arg V main_arg22 : FVec Ideal S2x64 .f32) (ix2 1 o)
      = block (argParams V) 1 (block (argParams V) 0 (features V r)) o d := by
  rw [act_eq, point1_at]
  rfl

/-- The second head's first linear map, of the second block. -/
theorem hidden_at (r : Fin 5376) (q : Fin 192) :
    (res_main_v357 V : FVec Ideal S5376x192 .f32) (ix2 r q)
      = linear (block (argParams V) 1 (block (argParams V) 0 (features V r))) (argParams V).h1a (argParams V).h1ab q := by
  pointwise [res_main_v357]
  rw [Fin.sum_univ_tiles 64 128 rfl]
  refine Eq.trans ?_ (linear_eq _ _ _ _).symm
  refine congrArg₂ (· + ·) (Finset.sum_congr rfl fun n _ => Finset.sum_congr rfl fun d _ => congrArg₂ (· * ·) ?_ rfl) rfl
  exact (block1_at V r _ _).trans (congrArg₂ (block (argParams V) 1 (block (argParams V) 0 (features V r)))
    (Fin.ext (by show (n.val * 128 + d.val) / 128 = n.val; omega)) (Fin.ext (by show (n.val * 128 + d.val) % 128 = d.val; omega)))

end Cert.ReferenceBlocks
end
-- ==== Proof.Finite.lean ====
module

public import proofs.«01_k».proof.Proof.Returns

/-! # Finite arguments give finite logits, and finite logits give gates that add up to one -/

@[expose] public section
noncomputable section

namespace Cert.Spec
open Idealize.ShloMosaic

/-- A number that is not infinite. -/
def Finite (x : EReal) : Prop := ∃ r : ℝ, x = r

theorem Finite.add {x y : EReal} : Finite x → Finite y → Finite (x + y)
  | ⟨a, ha⟩, ⟨b, hb⟩ => ⟨a + b, by rw [ha, hb, EReal.coe_add]⟩

theorem Finite.sub {x y : EReal} : Finite x → Finite y → Finite (x - y)
  | ⟨a, ha⟩, ⟨b, hb⟩ => ⟨a - b, by rw [ha, hb, EReal.coe_sub]⟩

theorem Finite.mul {x y : EReal} : Finite x → Finite y → Finite (x * y)
  | ⟨a, ha⟩, ⟨b, hb⟩ => ⟨a * b, by rw [ha, hb, EReal.coe_mul]⟩

theorem Finite.sum {n : ℕ} {f : Fin n → EReal} (h : ∀ i, Finite (f i)) : Finite (∑ i, f i) :=
  Finset.sum_induction f Finite (fun _ _ => Finite.add) ⟨0, rfl⟩ fun i _ => h i

/-- A sum of real numbers, taken among the extended ones. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- Dividing by a number that is neither infinite nor zero. -/
theorem Finite.div {x : EReal} {d : ℝ} (hd : d ≠ 0) (hx : Finite x) : Finite (Ideal.div x d) := by
  rw [Ideal.div_coe hd]
  exact hx.mul ⟨1 / d, rfl⟩

theorem len_eq : len = ((512 : ℝ) : EReal) := by
  simp [len, Ideal.ofBits, Ideal.ieee, -EReal.coe_mul]; norm_num

theorem eps_eq : eps = ((10995116 * (2 : ℝ) ^ (-40 : ℤ) : ℝ) : EReal) := by
  simp [eps, Ideal.ofBits, Ideal.ieee, -EReal.coe_mul]

theorem mean_finite {x : Fin 512 → EReal} (h : ∀ t, Finite (x t)) : Finite (mean x) := by
  unfold mean
  rw [len_eq]
  exact (Finite.sum h).div (by norm_num)

/-- The deviation of a finite series is finite and not zero: it is the root of a positive number. -/
theorem stdev_finite {x : Fin 512 → EReal} (h : ∀ t, Finite (x t)) : ∃ d : ℝ, d ≠ 0 ∧ stdev x = d := by
  choose c hc using fun t => (h t).sub (mean_finite h)
  have hs : (∑ t, (x t - mean x) * (x t - mean x)) = ((∑ t, c t * c t : ℝ) : EReal) := by
    rw [coe_sum]
    exact Finset.sum_congr rfl fun t _ => by rw [hc, EReal.coe_mul]
  have hp : 0 < (∑ t, c t * c t) * (1 / 512) + 10995116 * (2 : ℝ) ^ (-40 : ℤ) :=
    add_pos_of_nonneg_of_pos (mul_nonneg (Finset.sum_nonneg fun t _ => mul_self_nonneg _) (by norm_num)) (by positivity)
  refine ⟨Real.sqrt ((∑ t, c t * c t) * (1 / 512) + 10995116 * (2 : ℝ) ^ (-40 : ℤ)), (Real.sqrt_pos.mpr hp).ne', ?_⟩
  unfold stdev
  rw [hs, len_eq, eps_eq, Ideal.div_coe (by norm_num), ← EReal.coe_mul, ← EReal.coe_add, Ideal.sqrt_coe, if_neg hp.le.not_gt]

theorem norm_finite {x : Fin 512 → EReal} {w b : EReal} (h : ∀ t, Finite (x t)) (hw : Finite w) (hb : Finite b) (t : Fin 512) :
    Finite (norm x w b t) := by
  obtain ⟨d, hd, e⟩ := stdev_finite h
  unfold norm
  rw [e]
  exact ((((h t).sub (mean_finite h)).div hd).mul hw).add hb

/-- Finite arguments give finite logits. -/
theorem logits_finite {x : FVec Ideal ⟨3, ![256, 512, 21]⟩ .f32} {w sh : FVec Ideal ⟨1, ![21]⟩ .f32} {sW : FVec Ideal ⟨2, ![1, 21]⟩ .f32}
    {sb : FVec Ideal ⟨1, ![1]⟩ .f32} {gW : FVec Ideal ⟨2, ![4, 512]⟩ .f32} {gb : FVec Ideal ⟨1, ![4]⟩ .f32}
    (hx : ∀ i, Finite (x i)) (hw : ∀ i, Finite (w i)) (hsh : ∀ i, Finite (sh i)) (hsW : ∀ i, Finite (sW i)) (hsb : ∀ i, Finite (sb i))
    (hgW : ∀ i, Finite (gW i)) (hgb : ∀ i, Finite (gb i)) (b : Fin 256) (j : Fin 4) : Finite (logits x w sh sW sb gW gb b j) :=
  (Finite.sum fun _ => (((Finite.sum fun _ => (norm_finite (fun _ => hx _) (hw _) (hsh _) _).mul (hsW _)).add (hsb _)).mul (hgW _))).add (hgb _)

/-- The exponential of a finite difference is a positive number. -/
theorem exp_finite {a b : EReal} (ha : Finite a) (hb : Finite b) : ∃ e : ℝ, 0 < e ∧ Ideal.exp (a - b) = e := by
  obtain ⟨r, hr⟩ := ha.sub hb
  exact ⟨Real.exp r, Real.exp_pos r, by rw [hr, Ideal.exp_coe]⟩

/-- The exponential of a finite number less itself is one. -/
theorem exp_self {a : EReal} (ha : Finite a) : Ideal.exp (a - a) = 1 := by
  obtain ⟨r, rfl⟩ := ha
  rw [← EReal.coe_sub, sub_self, Ideal.exp_coe, Real.exp_zero, EReal.coe_one]

/-- The gates of finite logits add up to one. -/
theorem gate_sum {ℓ : Fin 4 → EReal} (h : ∀ j, Finite (ℓ j)) : ∑ j, gate ℓ j = 1 := by
  obtain ⟨e, he, hexp⟩ := exp_finite (h (second ℓ)) (h (first ℓ))
  have hne : second ℓ ≠ first ℓ := (top2 ℓ).2.2.1
  have hpos : (1 + e : ℝ) ≠ 0 := by positivity
  have hsplit : ∀ j, gate ℓ j = (if j = first ℓ then Ideal.div 1 (1 + (e : EReal)) else 0) + (if j = second ℓ then Ideal.div (e : EReal) (1 + (e : EReal)) else 0) := fun j => by
    unfold gate
    rw [hexp]
    by_cases h₁ : j = first ℓ
    · rw [if_pos h₁, if_pos h₁, if_neg (h₁ ▸ hne.symm), add_zero]
    · rw [if_neg h₁, if_neg h₁, zero_add]
  rw [Finset.sum_congr rfl fun j _ => hsplit j, Finset.sum_add_distrib, Finset.sum_ite_eq', Finset.sum_ite_eq',
    if_pos (Finset.mem_univ _), if_pos (Finset.mem_univ _), ← EReal.coe_one, ← EReal.coe_add, Ideal.div_coe hpos, Ideal.div_coe hpos,
    ← EReal.coe_mul, ← EReal.coe_mul, ← EReal.coe_add]
  exact congrArg _ (by field_simp)

end Cert.Spec
end
-- ==== Proof.ReferenceGates.lean ====
module

public import proofs.«01_k».proof.Proof.ReferenceSeries
public import proofs.«01_k».proof.Proof.Finite
public import Idealize.ShloMosaic.Lib.ScatterToDense.RefScatter

/-! # The reference's gates -/

@[expose] public section
set_option maxRecDepth 16384
set_option maxHeartbeats 1600000
noncomputable section

namespace Cert.ReferenceGates
open Idealize.ShloMosaic Idealize.ShloMosaic.TcCoe Idealize.SL.Sem
open Cert.ReferenceIdeal Cert.ReferenceIdeal.Gen Cert.ReferenceIdeal.Value Cert.Spec Cert.ReferenceSeries
variable (V : Valuation τ sig (Elt Ideal))

/-- The bits of minus infinity. -/
theorem neg_inf : (Ideal.ofBits FTy.f32 4286578688#32 : EReal) = ⊥ := by
  simp [Ideal.ofBits, Ideal.ieee]

/-- Moving along a row. -/
theorem along_row (r : Fin 256) (k p : Fin 4) : (ix2 r k : S256x4.Idx).along 1 p = ix2 r p := by
  funext a
  match a with
  | ⟨0, _⟩ => rfl
  | ⟨1, _⟩ => rfl

/-- The order the sort uses is the order of the row's numbers. -/
theorem order_eq (x : FVec Ideal S256x4 .f32) (r : Fin 256) (p q : Fin 4) :
    (FloatOps.cmpfTotal .gt (x (ix2 r p)) (x (ix2 r q)) == 1#1) = above (fun j => x (ix2 r j)) p q := by
  rw [Ideal.cmpfTotal_def]
  unfold above
  show (BitVec.ofBool (decide (x (ix2 r q) < x (ix2 r p))) == 1#1) = _
  cases decide (x (ix2 r q) < x (ix2 r p)) <;> rfl

/-- The sorted logits of a row. -/
theorem sorted_value (x : FVec Ideal S256x4 .f32) (r : Fin 256) (k : Fin 3) :
    (Host.topK S256x3 1 (FloatOps.cmpfTotal .gt) x sliceFits_S256x4_S256x3).1 (ix2 r k)
      = x (ix2 r (sortedFrom (above fun j => x (ix2 r j)) (k.castLE (by decide)))) := by
  unfold Host.topK Host.sort2
  simp only [dif_pos (show 1 < S256x4.rank by decide)]
  pointwise []
  simp only [along_row, order_eq]
  rfl

/-- The experts of the sorted logits. -/
theorem sorted_index (x : FVec Ideal S256x4 .f32) (r : Fin 256) (k : Fin 3) :
    (Host.topK S256x3 1 (FloatOps.cmpfTotal .gt) x sliceFits_S256x4_S256x3).2 (ix2 r k)
      = BitVec.ofNat 32 (sortedFrom (above fun j => x (ix2 r j)) (k.castLE (by decide))).val := by
  unfold Host.topK Host.sort2
  simp only [dif_pos (show 1 < S256x4.rank by decide)]
  pointwise []
  simp only [along_row, order_eq]
  rfl

/-- Row `r` of the reference's logits. -/
abbrev row (r : Fin 256) (j : Fin 4) : EReal := (res_main_v28 V : FVec Ideal S256x4 .f32) (ix2 r j)

/-- The expert in place `k` of the first two. -/
def top (ℓ : Fin 4 → EReal) (k : Fin 2) : Fin 4 := sortedFrom (above ℓ) (k.castLE (by decide))

/-- The reference's two kept logits. -/
theorem value_at (r : Fin 256) (k : Fin 2) : (res_main_v29 V : FVec Ideal S256x2 .f32) (ix2 r k) = row V r (top (row V r) k) := by
  pointwise [res_main_v29]
  exact sorted_value _ r (k.castLE (by decide))

/-- Their experts. -/
theorem index_at (r : Fin 256) (k : Fin 2) : (res_main_v44 V : IVec S256x2 32) (ix2 r k) = BitVec.ofNat 32 (top (row V r) k).val := by
  pointwise [res_main_v44]
  exact sorted_index _ r (k.castLE (by decide))

/-- The greatest of the two sorted logits is the first. -/
theorem max_at (r : Fin 256) : Finset.fold max (Ideal.ofBits FTy.f32 4286578688#32) (res_main_v29 V : FVec Ideal S256x2 .f32)
    (Finset.univ.filter fun i => reducesTo_S256x2_S256_d1.drop i = ix1 r) = row V r (first (row V r)) := by
  refine le_antisymm ((Finset.fold_max_le _).mpr ⟨by rw [neg_inf]; exact bot_le, fun i hi => ?_⟩) ((Finset.le_fold_max _).mpr (Or.inr ⟨ix2 r 0, ?_, le_of_eq ?_⟩))
  · obtain ⟨a, k, rfl⟩ : ∃ (a : Fin 256) (k : Fin 2), i = ix2 a k := ⟨i 0, i 1, eq_ix2 i⟩
    have ha : a = r := congrFun (Finset.mem_filter.mp hi).2 0
    rw [ha, value_at]
    exact (top2 (row V r)).1 _
  · exact Finset.mem_filter.mpr ⟨Finset.mem_univ _, funext fun a => by match a with | ⟨0, _⟩ => rfl⟩
  · exact (value_at V r 0).symm

/-- The exponentials of the two sorted logits. -/
theorem exp_at (r : Fin 256) (k : Fin 2) : (res_main_v36 V : FVec Ideal S256x2 .f32) (ix2 r k) = Ideal.exp (row V r (top (row V r) k) - row V r (first (row V r))) := by
  pointwise [res_main_v36]
  rw [value_at, max_at, neg_inf, max_eq_right bot_le]

/-- A small row number as a word is not negative. -/
theorem row_word (i : Fin 256) : Scalar.select (IntOp.cmpi CmpIPredicate.slt (BitVec.ofNat 32 i.val) 0#32) (IntOp.addi (BitVec.ofNat 32 i.val) 256#32) (BitVec.ofNat 32 i.val) = BitVec.ofNat 32 i.val := by
  revert i
  decide +kernel

/-- Nor is an expert's number. -/
theorem expert_word (i : Fin 4) : Scalar.select (IntOp.cmpi CmpIPredicate.slt (BitVec.ofNat 32 i.val) 0#32) (IntOp.addi (BitVec.ofNat 32 i.val) 4#32) (BitVec.ofNat 32 i.val) = BitVec.ofNat 32 i.val := by
  revert i
  decide +kernel

/-- The gate in place `k` of the first two: the softmax as the reference computes it. -/
def soft (ℓ : Fin 4 → EReal) (k : Fin 2) : EReal :=
  Ideal.div (Ideal.exp (ℓ (top ℓ k) - ℓ (first ℓ))) (∑ k, Ideal.exp (ℓ (top ℓ k) - ℓ (first ℓ)))

/-- The softmax of the two, when the logits are finite. -/
theorem soft_sum {ℓ : Fin 4 → EReal} (h : ∀ j, Finite (ℓ j)) :
    (∑ k, Ideal.exp (ℓ (top ℓ k) - ℓ (first ℓ))) = 1 + Ideal.exp (ℓ (second ℓ) - ℓ (first ℓ)) := by
  rw [Fin.sum_univ_two]
  exact congrArg (· + _) (exp_self (h (first ℓ)))

/-- The reference's gates of a batch entry are the gates of its logits, when these are finite. -/
theorem gates_at (r : Fin 256) (j : Fin 4) (h : ∀ j, Finite (row V r j)) : (res_main_v59 V : FVec Ideal S256x4 .f32) (ix2 r j) = gate (row V r) j := by
  unfold res_main_v59
  refine (ScatterToDense.scatter_eq_GS (α := EReal) scatter_S256x4_S256x2x2_S256x2_n_01_01_2 rfl rfl rfl (by decide) (by decide) _ _ _
    (fun r k => BitVec.ofNat 32 (top (row V r) (Fin.ofNat 2 k)).val)
    (fun r k => soft (row V r) (Fin.ofNat 2 k)) (fun i k => ?_) (fun i k => ?_) (fun i k => ?_) r j).trans ?_
  · rw [← ix3_eq_valueIdx]
    pointwise [res_main_v43]
    exact row_word i
  · rw [← ix3_eq_valueIdx, Fin.ofNat_val_eq_self]
    pointwise []
    simp only [index_at]
    exact expert_word _
  · rw [← ix2_eq_valueIdx, Fin.ofNat_val_eq_self]
    pointwise []
    simp only [exp_at]
    rfl
  · have hw : ∀ i : Fin 4, (BitVec.ofNat 32 i.val).toNat = i.val := by decide +kernel
    have h0 : top (row V r) (Fin.ofNat 2 0) = first (row V r) := rfl
    have h1 : top (row V r) (Fin.ofNat 2 1) = second (row V r) := rfl
    have hne : second (row V r) ≠ first (row V r) := (top2 (row V r)).2.2.1
    rw [ScatterToDense.GS_succ, ScatterToDense.GS_succ, ScatterToDense.GS_zero, hw, hw, h0, h1]
    unfold gate soft
    rw [h0, h1, soft_sum h, exp_self (h (first (row V r)))]
    by_cases e1 : j = first (row V r)
    · rw [if_neg fun e => hne (Fin.ext e.symm |>.trans e1), if_pos (congrArg Fin.val e1), if_pos e1]
    · rw [if_neg e1, if_neg fun e => e1 (Fin.ext e)]
      by_cases e2 : j = second (row V r)
      · rw [if_pos e2, if_pos (congrArg Fin.val e2)]
      · rw [if_neg e2, if_neg fun e => e2 (Fin.ext e)]
        exact Ideal.ofBits_zero_f32

/-- The reference's gate of expert `j` for batch entry `r`. -/
abbrev gates (r : Fin 256) (j : Fin 4) : EReal := (res_main_v59 V : FVec Ideal S256x4 .f32) (ix2 r j)

/-- The gates of a batch entry add up to one. -/
theorem gates_sum (r : Fin 256) (h : ∀ j, Finite (row V r j)) : ∑ j, gates V r j = 1 := by
  have e : gates V r = gate (row V r) := funext fun j => gates_at V r j h
  rw [e]
  exact gate_sum h

/-- The reference's importances. -/
theorem importance_at (j : Fin 4) : (res_main_v60 V : FVec Ideal S4 .f32) (ix1 j) = importance (gates V) j := by
  pointwise [res_main_v60]
  rfl

/-- Adding flags as words counts them. -/
theorem count_word {ι : Type} (S : Finset ι) (c : ι → Bool) :
    Finset.fold IntOp.addi (0#32) (fun i => BitVec.setWidth 32 (BitVec.ofBool (c i))) S = BitVec.ofNat 32 (∑ i ∈ S, if c i = true then 1 else 0) := by
  classical
  induction S using Finset.induction_on with
  | empty => rfl
  | insert a S ha ih =>
    rw [Finset.fold_insert ha, Finset.sum_insert ha, ih, BitVec.ofNat_add]
    refine congrArg (· + _) ?_
    cases c a <;> rfl

/-- The places of column `j`. -/
theorem column_eq (j : Fin 4) : (Finset.univ.filter fun i : S256x4.Idx => reducesTo_S256x4_S4_d0.drop i = ix1 j) = Finset.univ.image fun r : Fin 256 => (ix2 r j : S256x4.Idx) := by
  ext i
  simp only [Finset.mem_filter, Finset.mem_univ, true_and, Finset.mem_image]
  constructor
  · intro h
    obtain ⟨a, k, rfl⟩ : ∃ (a : Fin 256) (k : Fin 4), i = ix2 a k := ⟨i 0, i 1, eq_ix2 i⟩
    have hk : k = j := congrFun h 0
    exact ⟨a, by rw [hk]⟩
  · rintro ⟨a, rfl⟩
    exact funext fun b => by match b with | ⟨0, _⟩ => rfl

/-- A small count as a float. -/
theorem count_float (n : ℕ) (h : n ≤ 256) : (FloatOps.sitofp FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

/-- The reference's loads. -/
theorem load_at (j : Fin 4) : (res_main_v65 V : FVec Ideal S4 .f32) (ix1 j) = load (gates V) j := by
  have inj : ∀ a b : Fin 256, (ix2 a j : S256x4.Idx) = ix2 b j → a = b := fun a b h => congrFun h 0
  pointwise [res_main_v65]
  refine (congrArg (FloatOps.sitofp FTy.f32) (count_word _ fun i => decide ((0 : EReal) < (res_main_v59 V : FVec Ideal S256x4 .f32) i))).trans ?_
  refine (congrArg (fun S : Finset S256x4.Idx => FloatOps.sitofp FTy.f32 (BitVec.ofNat 32 (∑ i ∈ S, if decide ((0 : EReal) < (res_main_v59 V : FVec Ideal S256x4 .f32) i) = true then 1 else 0))) (column_eq j)).trans ?_
  rw [Finset.sum_image fun a _ b _ h => inj a b h, count_float]
  · unfold Spec.load
    rw [Nat.cast_sum, coe_sum]
    refine Finset.sum_congr rfl fun r _ => ?_
    simp only [decide_eq_true_eq]
    split <;> simp
  · refine (Finset.sum_le_card_nsmul _ _ 1 fun r _ => ?_).trans (by simp)
    split <;> omega

end Cert.ReferenceGates
end
-- ==== Proof.ReferenceResults.lean ====
module

public import proofs.«01_k».proof.Proof.ReferenceBlocks
public import proofs.«01_k».proof.Proof.ReferenceGates

/-! # What the reference returns

The heads are read off the blocks and the gates' sum is one, so the first result is the forecasts; the second is the balance
loss. Both hold where the gating logits are finite. -/

@[expose] public section
set_option maxRecDepth 16384
set_option maxHeartbeats 1600000
noncomputable section

namespace Cert.ReferenceResults
open Idealize.ShloMosaic Idealize.ShloMosaic.TcCoe Idealize.SL.Sem
open Cert.ReferenceIdeal Cert.ReferenceIdeal.Gen Cert.ReferenceIdeal.Value Cert.Spec Cert.ReferenceSeries Cert.ReferenceBlocks Cert.ReferenceGates
variable (V : Valuation τ sig (Elt Ideal))

/-- The first head, of the features. -/
theorem head0_at (r : Fin 5376) (p : Fin 96) :
    (∑ x : Fin 8192, features V r (⟨x.val / 128, by omega⟩ : Fin 64) (⟨x.val % 128, by omega⟩ : Fin 128)
        * (arg V main_arg9 : FVec Ideal S96x8192 .f32) (ix2 p x)) + (arg V main_arg10 : FVec Ideal S96 .f32) (ix1 p)
      = linear (features V r) (argParams V).h0 (argParams V).h0b p := by
  rw [Fin.sum_univ_tiles 64 128 rfl]
  refine Eq.trans ?_ (linear_eq _ _ _ _).symm
  refine congrArg₂ (· + ·) (Finset.sum_congr rfl fun n _ => Finset.sum_congr rfl fun d _ => congrArg₂ (· * ·) ?_ rfl) rfl
  exact congrArg₂ (features V r) (Fin.ext (by show (n.val * 128 + d.val) / 128 = n.val; omega))
    (Fin.ext (by show (n.val * 128 + d.val) % 128 = d.val; omega))

/-- The second head, of the second block. -/
theorem head1_at (r : Fin 5376) (p : Fin 96) :
    (∑ x : Fin 192, Ideal.ofBits FTy.f32 1056964608#32 * (res_main_v357 V : FVec Ideal S5376x192 .f32) (ix2 r x)
        * (1 + Ideal.erf (Ideal.div ((res_main_v357 V : FVec Ideal S5376x192 .f32) (ix2 r x)) (id (Host.sqrt (constant (F := Ideal) S_ FTy.f32 1073741824#32)) ix0)))
        * (arg V main_arg13 : FVec Ideal S96x192 .f32) (ix2 p x)) + (arg V main_arg14 : FVec Ideal S96 .f32) (ix1 p)
      = head (argParams V) (block (argParams V) 1 (block (argParams V) 0 (features V r))) p := by
  refine congrArg₂ (· + ·) (Finset.sum_congr rfl fun q _ => congrArg₂ (· * ·) ?_ rfl) rfl
  rw [div_root, hidden_at]
  rfl

/-- The features of the series of channel `c` of batch entry `b`. -/
theorem features_eq (b : Fin 256) (c : Fin 21) (h : b.val * 21 + c.val < 5376) :
    features V ⟨b.val * 21 + c.val, h⟩ = feat (argParams V) (norm (channel (arg V main_arg0) b c)
      ((arg V main_arg1 : FVec Ideal S21 .f32) (ix1 c)) ((arg V main_arg2 : FVec Ideal S21 .f32) (ix1 c))) := by
  have hb : (⟨(b.val * 21 + c.val) / 21, by omega⟩ : Fin 256) = b := Fin.ext (by show (b.val * 21 + c.val) / 21 = b.val; omega)
  have hc : (⟨(b.val * 21 + c.val) % 21, by omega⟩ : Fin 21) = c := Fin.ext (by show (b.val * 21 + c.val) % 21 = c.val; omega)
  funext n d
  refine (feat_at V _ n d).trans ?_
  rw [hb, hc]

/-- A forecast, from gates that add up to one, the two heads, the deviation, and the mean. -/
theorem forecast_of (P : Params) (x : Fin 512 → EReal) (w s : EReal) (p : Fin 96) {G : Fin 4 → EReal} {a b S M : EReal} (hG : ∑ j, G j = 1)
    (ha : a = linear (feat P (norm x w s)) P.h0 P.h0b p) (hb : b = head P (block P 1 (block P 0 (feat P (norm x w s)))) p)
    (hS : S = stdev x) (hM : M = mean x) :
    Ideal.div ((∑ j, G j) * (a + b) - s) (w + Ideal.ofBits FTy.f32 786163455#32) * S + M = forecast P x w s p := by
  rw [hG, one_mul, ha, hb, hS, hM]
  rfl

/-- Four less one is three. -/
theorem three : (Ideal.ofBits FTy.f32 0x40800000#32 : EReal) - (FloatOps.sitofp FTy.f32 1#32 : Ideal .f32) = Ideal.ofBits FTy.f32 0x40400000#32 := by
  have h4 : (Ideal.ofBits FTy.f32 0x40800000#32 : EReal) = ((4 : ℝ) : EReal) := by
    simp [Ideal.ofBits, Ideal.ieee, -EReal.coe_mul]; norm_num
  have h3 : (Ideal.ofBits FTy.f32 0x40400000#32 : EReal) = ((3 : ℝ) : EReal) := by
    simp [Ideal.ofBits, Ideal.ieee, -EReal.coe_mul]; norm_num
  rw [h4, h3, show (1#32 : BitVec 32) = BitVec.ofNat 32 1 from rfl, count_float 1 (by omega)]
  show ((4 : ℝ) : EReal) - (((1 : ℕ) : ℝ) : EReal) = _
  rw [← EReal.coe_sub]
  norm_num

/-- Three is positive. -/
theorem three_pos : (0 : EReal) < Ideal.ofBits FTy.f32 0x40400000#32 := by
  have h3 : (Ideal.ofBits FTy.f32 0x40400000#32 : EReal) = ((3 : ℝ) : EReal) := by
    simp [Ideal.ofBits, Ideal.ieee, -EReal.coe_mul]; norm_num
  rw [h3]
  exact_mod_cast (by norm_num : (0 : ℝ) < 3)

/-- The squared coefficient of variation, from the four numbers less their mean, the divisor, and the mean. -/
theorem cv_of {v d : Fin 4 → EReal} {k u : EReal} (e : EReal) (hd : ∀ j, d j = v j - mean4 v)
    (hk : k = Ideal.ofBits FTy.f32 0x40400000#32) (hu : u = mean4 v) :
    Ideal.div (if 0 < k then Ideal.div (∑ j, d j * d j) k else e) (u * u + Ideal.ofBits FTy.f32 786163455#32) = cv v := by
  rw [hk, if_pos three_pos, hu, Finset.sum_congr rfl fun j _ => by rw [hd j]]
  rfl

/-- The importances less their mean. -/
theorem importance_less (j : Fin 4) : (res_main_call1_v5 V : FVec Ideal S4 .f32) (ix1 j) = importance (gates V) j - mean4 (importance (gates V)) := by
  pointwise [res_main_call1_v5]
  simp only [importance_at]
  rfl

/-- The loads less their mean. -/
theorem load_less (j : Fin 4) : (res_main_call2_v5 V : FVec Ideal S4 .f32) (ix1 j) = Spec.load (gates V) j - mean4 (Spec.load (gates V)) := by
  pointwise [res_main_call2_v5]
  simp only [load_at]
  rfl

/-- The importances' mean. -/
theorem importance_mean : (res_main_v68 V : FVec Ideal S_ .f32) ix0 = mean4 (importance (gates V)) := by
  pointwise [res_main_v68]
  simp only [importance_at]
  rfl

/-- The loads' mean. -/
theorem load_mean : (res_main_v74 V : FVec Ideal S_ .f32) ix0 = mean4 (Spec.load (gates V)) := by
  pointwise [res_main_v74]
  simp only [load_at]
  rfl

/-- The importances' divisor. -/
theorem importance_divisor : (res_main_call1_v8 V : FVec Ideal S_ .f32) ix0 = Ideal.ofBits FTy.f32 0x40400000#32 := by
  pointwise [res_main_call1_v8]
  exact three

/-- The loads' divisor. -/
theorem load_divisor : (res_main_call2_v8 V : FVec Ideal S_ .f32) ix0 = Ideal.ofBits FTy.f32 0x40400000#32 := by
  pointwise [res_main_call2_v8]
  exact three

/-- The reference's gates are the gates of the specified logits, when these are finite. -/
theorem gates_eq (h : ∀ r j, Finite (row V r j)) :
    gates V = fun r => gate (logits (arg V main_arg0) (arg V main_arg1) (arg V main_arg2) (arg V main_arg3) (arg V main_arg4) (arg V main_arg5) (arg V main_arg6) r) := by
  funext r j
  exact (gates_at V r j (h r)).trans (congrArg (gate · j) (funext fun k => logits_at V r k))

/-- The reference's arguments. -/
def argRefs : List (Ref sig .tc) := [main_arg0, main_arg1, main_arg2, main_arg3, main_arg4, main_arg5, main_arg6, main_arg7, main_arg8, main_arg9, main_arg10, main_arg11, main_arg12,
  main_arg13, main_arg14, main_arg15, main_arg16, main_arg17, main_arg18, main_arg19, main_arg20, main_arg21, main_arg22]

/-- Launched on arguments that make the logits finite, the reference ends with the forecasts and the balance loss of its arguments, which it leaves as they were. -/
theorem results (m : (ℓ : Loc nD τ sig) → Buf (Elt Ideal) ℓ) (ρ : Dev nD → PrngReg)
    (h : ∀ (c : Dev nD) r j, Finite (row (StableHlo.launchContents m c) r j)) :
    θ_run defs (onTc (τ := τ) (main (F := Ideal))) ⟨m, fun _ => 0, ρ⟩ fun r => ∀ c : Dev nD,
      r.2.mem ((c.tc : Thread nD τ).loc main_v391)
          = forecasts (argParams (StableHlo.launchContents m c)) (arg (StableHlo.launchContents m c) main_arg0)
              (arg (StableHlo.launchContents m c) main_arg1) (arg (StableHlo.launchContents m c) main_arg2)
      ∧ r.2.mem ((c.tc : Thread nD τ).loc main_v79)
          = balance (arg (StableHlo.launchContents m c) main_arg0) (arg (StableHlo.launchContents m c) main_arg1)
              (arg (StableHlo.launchContents m c) main_arg2) (arg (StableHlo.launchContents m c) main_arg3)
              (arg (StableHlo.launchContents m c) main_arg4) (arg (StableHlo.launchContents m c) main_arg5)
              (arg (StableHlo.launchContents m c) main_arg6)
      ∧ ∀ a ∈ argRefs, r.2.mem ((c.tc : Thread nD τ).loc a) = m ((c.tc : Thread nD τ).loc a) := by
  refine (θ_run defs _ _).mono (fun r hr c => ?_) (run m ρ)
  obtain ⟨h1, h2, h3⟩ := hr c
  clear hr
  refine ⟨h1.trans ?_, h2.trans ?_, by
    simpa only [argRefs, List.forall_mem_cons, List.not_mem_nil, IsEmpty.forall_iff, implies_true, and_true] using h3⟩
  · refine funext fun y => ?_
    obtain ⟨b, p, k, rfl⟩ : ∃ (b : Fin 256) (p : Fin 96) (k : Fin 21), y = ix3 b p k := ⟨y 0, y 1, y 2, eq_ix3 y⟩
    clear h1 h2 h3
    pointwise []
    show _ = forecast (argParams (StableHlo.launchContents m c)) (channel (arg (StableHlo.launchContents m c) main_arg0) b k)
      ((arg (StableHlo.launchContents m c) main_arg1 : FVec Ideal S21 .f32) (ix1 k))
      ((arg (StableHlo.launchContents m c) main_arg2 : FVec Ideal S21 .f32) (ix1 k)) p
    exact forecast_of _ _ _ _ _ (gates_sum _ b (h c b)) ((head0_at _ _ p).trans (by rw [features_eq])) ((head1_at _ _ p).trans (by rw [features_eq]))
      (stdev_at _ b k) (mean_at _ b k)
  · refine funext fun y => ?_
    obtain rfl : y = ix0 := funext fun a => a.elim0
    clear h1 h2 h3
    pointwise []
    refine (congrArg₂ (· * ·) (congrArg₂ (· + ·)
      (cv_of (v := importance (gates (StableHlo.launchContents m c))) _ (importance_less _) (importance_divisor _) (importance_mean _))
      (cv_of (v := Spec.load (gates (StableHlo.launchContents m c))) _ (load_less _) (load_divisor _) (load_mean _))) rfl).trans ?_
    show loss (gates (StableHlo.launchContents m c)) = loss _
    rw [gates_eq _ (h c)]

end Cert.ReferenceResults
end
-- ==== Proof.Precondition.lean ====
module

public import proofs.«01_k».proof.Defs
public import proofs.«01_k».proof.Proof.Gen.Pre_gating_finite
public import proofs.«01_k».proof.Proof.KernelInputs
public import proofs.«01_k».proof.Proof.Finite

/-! # The precondition says that the gating's arguments are finite -/

@[expose] public section
set_option maxRecDepth 16384
noncomputable section

namespace Cert.Precondition
open Idealize.ShloMosaic Idealize.ShloMosaic.TcCoe Idealize.SL.Sem
open Cert.KernelIdeal Cert.Spec Cert.KernelInputs

/-- A number whose absolute value is below infinity is finite. -/
theorem finite_of {x : EReal} (h : max x (-x) < ⊤) : Finite x := by
  induction x with
  | bot => exact absurd h (by simp)
  | top => exact absurd h (by simp)
  | coe r => exact ⟨r, rfl⟩

/-- The f32 infinity. -/
theorem infinity : (Ideal.ofBits .f32 0x7F800000#32 : EReal) = ⊤ := by
  simp [Ideal.ofBits, Ideal.ieee]

/-- An array is finite when the precondition's test of it holds everywhere. -/
theorem finite_array {S : Shape} (x : FVec Ideal S .f32) (hb : (⟨0, ![]⟩ : Shape).BroadcastsInDim S (![] : Fin 0 → Fin S.rank))
    (h : cmpf .olt (Host.absf x) (broadcastInDim S ![] hb (constant (F := Ideal) ⟨0, ![]⟩ .f32 0x7F800000#32)) = fun _ => 1#1) (i : S.Idx) : Finite (x i) := by
  have h : Ideal.cmp .olt (max (x i) (-x i)) (Ideal.ofBits .f32 0x7F800000#32) = 1#1 := congrFun h i
  rw [infinity] at h
  refine finite_of ?_
  by_contra hn
  simp [Ideal.cmp, hn] at h

variable (m : (ℓ : Loc nD τ sig) → Buf (Elt Ideal) ℓ)

/-- Under the precondition every gating logit is finite. -/
theorem logits_fin (h : Cert.Pre_KernelIdeal_gating_finite m) (c : Dev nD) (b : Fin 256) (j : Fin 4) :
    Finite (logits (arg m c main_arg0) (arg m c main_arg1) (arg m c main_arg2) (arg m c main_arg3) (arg m c main_arg4) (arg m c main_arg5) (arg m c main_arg6) b j) := by
  obtain ⟨h0, h1, h2, h3, h4, h5, h6⟩ := h c
  exact logits_finite (finite_array _ _ h0) (finite_array _ _ h1) (finite_array _ _ h2) (finite_array _ _ h3) (finite_array _ _ h4) (finite_array _ _ h5) (finite_array _ _ h6) b j

end Cert.Precondition
end
-- ==== Proof.Equation.lean ====
module

public import proofs.«01_k».proof.Proof.Frames
public import proofs.«01_k».proof.Proof.KernelResults
public import proofs.«01_k».proof.Proof.ReferenceResults
public import proofs.«01_k».proof.Proof.Precondition

/-! # Kernel and reference return the same arrays

Both return the forecasts and the balance loss of their arguments, the reference where the gating logits are finite; the
precondition makes them so. -/

@[expose] public section
set_option maxRecDepth 16384
set_option maxHeartbeats 1600000
noncomputable section

namespace Cert.Equation
open Idealize.ShloMosaic Idealize.ShloMosaic.TcCoe Idealize.SL.Sem Cert.Spec

section Kernel
open Cert.KernelIdeal Cert.KernelIdeal.Run Cert.KernelInputs Cert.KernelResults

/-- Whatever the kernel is launched on, it ends with the forecasts and the balance loss of its arguments, which it leaves as they were. -/
theorem kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = forecasts (argParams m c) (arg m c main_arg0) (arg m c main_arg1) (arg m c main_arg2)
      ∧ r.2.mem ((c.tc : Thread nD τ).loc main_v0_1) = argBalance m c
      ∧ ∀ a ∈ argRefs, r.2.mem ((c.tc : Thread nD τ).loc a) = m ((c.tc : Thread nD τ).loc a) :=
  (θ_run defs _ _).mono (fun _ h c => ⟨(h.1 c main_v0_0 (by decide)).trans (result0 m ρ c), (h.1 c main_v0_1 (by decide)).trans (result1 m ρ c),
    fun a ha => (h.1 c a (args_unscoped a ha)).trans (W5_args m ρ c a ha)⟩) (final m ρ)

end Kernel

/-- The kernel and the reference, launched on equal arguments of which the precondition holds, return equal arrays. -/
theorem algebraic : Cert.algebraic_KernelIdeal_ReferenceIdeal_pre_gating_finite := by
  intro m g m' g' hpre hagree
  have hfin : ∀ (c : Dev Cert.ReferenceIdeal.nD) r j, Finite (Cert.ReferenceGates.row (StableHlo.launchContents m' c) r j) := fun c r j => by
    refine (congrArg Spec.Finite ((Cert.ReferenceSeries.logits_at (StableHlo.launchContents m' c) r j).trans ?_)).mpr (Cert.Precondition.logits_fin m hpre c r j)
    obtain ⟨e0, e1, e2, e3, e4, e5, e6, -⟩ := hagree c
    unfold Cert.KernelInputs.arg
    rw [← e0, ← e1, ← e2, ← e3, ← e4, ← e5, ← e6]
  refine ⟨fun c => forecasts (Cert.KernelInputs.argParams m c) (Cert.KernelInputs.arg m c Cert.KernelIdeal.main_arg0)
    (Cert.KernelInputs.arg m c Cert.KernelIdeal.main_arg1) (Cert.KernelInputs.arg m c Cert.KernelIdeal.main_arg2),
    fun c => Cert.KernelResults.argBalance m c, ?_, ?_⟩
  · refine (θ_run Cert.KernelIdeal.defs _ _).mono (fun r h c => ⟨(h c).1, (h c).2.1, ?_⟩) (kernel m g)
    refine ⟨?_, ?_, ?_, ?_, ?_, ?_, ?_, ?_, ?_, ?_, ?_, ?_, ?_, ?_, ?_, ?_, ?_, ?_, ?_, ?_, ?_, ?_, ?_⟩ <;>
      exact (h c).2.2 _ (by simp only [Cert.KernelIdeal.Run.argRefs, List.mem_cons, true_or, or_true])
  · refine (θ_run Cert.ReferenceIdeal.defs _ _).mono (fun r h c => ⟨(h c).1.trans ?_, (h c).2.1.trans ?_, ?_⟩) (Cert.ReferenceResults.results m' g' hfin)
    · refine ⟨?_, ?_, ?_, ?_, ?_, ?_, ?_, ?_, ?_, ?_, ?_, ?_, ?_, ?_, ?_, ?_, ?_, ?_, ?_, ?_, ?_, ?_, ?_⟩ <;>
        exact (h c).2.2 _ (by simp only [Cert.ReferenceResults.argRefs, List.mem_cons, true_or, or_true])
    · obtain ⟨e0, e1, e2, -, -, -, -, e7, e8, e9, e10, e11, e12, e13, e14, e15, e16, e17, e18, e19, e20, e21, e22⟩ := hagree c
      unfold Cert.ReferenceSeries.argParams Cert.KernelInputs.argParams Cert.KernelInputs.arg
      beta_reduce
      rw [← e0, ← e1, ← e2, ← e7, ← e8, ← e9, ← e10, ← e11, ← e12, ← e13, ← e14, ← e15, ← e16, ← e17, ← e18, ← e19, ← e20, ← e21, ← e22]
    · obtain ⟨e0, e1, e2, e3, e4, e5, e6, -⟩ := hagree c
      unfold Cert.KernelResults.argBalance Cert.KernelInputs.arg
      beta_reduce
      rw [← e0, ← e1, ← e2, ← e3, ← e4, ← e5, ← e6]

end Cert.Equation
end
-- ==== Proof.lean ====
module

public import proofs.«01_k».proof.Defs
public import proofs.«01_k».proof.Proof.Equation
public import Idealize.ShloMosaic.Adequacy
public import Idealize.ShloMosaic.Init

/-! # The claim: the frames, the named constant, and the equality of kernel and reference -/

@[expose] public section

noncomputable section

namespace Cert.Proof

open Idealize.ShloMosaic Idealize.SL.Sem Cert.Kernel

/-- Every program ends with its arguments as they were, the named constant is the kernel's, and kernel and reference return the same. -/
theorem claim : Cert.Claim :=
  ⟨Cert.Kernel.Gen.facts, Cert.KernelIdeal.Gen.facts, Cert.ReferenceIdeal.Gen.facts, Cert.Pre_gating_finite.Gen.facts,
    Cert.Frames.kernel, Cert.Frames.kernelIdeal, Cert.Frames.kernelIdeal_pre, Cert.Frames.reference, Cert.Frames.reference_pre,
    Cert.Frames.named, Cert.Equation.algebraic⟩

end Cert.Proof

end
